-- ==== Defs.lean ====
def Pre_Kernel [hPre_plan_ok : Cert.Pre_plan_ok.Facts] (m : (ℓ : Loc Cert.Kernel.nD Cert.Kernel.τ Cert.Kernel.sig) → Buf (Elt Bits) ℓ) : Prop :=
  ∀ c : Dev Cert.Kernel.nD,
    (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 = (fun _ => 1#1)
    ∧ (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 = (fun _ => 1#1)
    ∧ (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2 = (fun _ => 1#1)

def Pre_Reference [hPre_plan_ok : Cert.Pre_plan_ok.Facts] (m : (ℓ : Loc Cert.Reference.nD Cert.Reference.τ Cert.Reference.sig) → Buf (Elt Bits) ℓ) : Prop :=
  ∀ c : Dev Cert.Reference.nD,
    (Cert.Pre_plan_ok.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6)) (m ((c.tc : Thread Cert.Reference.nD Cert.Reference.τ).loc Cert.Reference.main_arg7)) (m ((c.tc : Thread Cert.Reference.nD Cert.Reference.τ).loc Cert.Reference.main_arg8)) (m ((c.tc : Thread Cert.Reference.nD Cert.Reference.τ).loc Cert.Reference.main_arg9))).1 = (fun _ => 1#1)
    ∧ (Cert.Pre_plan_ok.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6)) (m ((c.tc : Thread Cert.Reference.nD Cert.Reference.τ).loc Cert.Reference.main_arg7)) (m ((c.tc : Thread Cert.Reference.nD Cert.Reference.τ).loc Cert.Reference.main_arg8)) (m ((c.tc : Thread Cert.Reference.nD Cert.Reference.τ).loc Cert.Reference.main_arg9))).2.1 = (fun _ => 1#1)
    ∧ (Cert.Pre_plan_ok.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6)) (m ((c.tc : Thread Cert.Reference.nD Cert.Reference.τ).loc Cert.Reference.main_arg7)) (m ((c.tc : Thread Cert.Reference.nD Cert.Reference.τ).loc Cert.Reference.main_arg8)) (m ((c.tc : Thread Cert.Reference.nD Cert.Reference.τ).loc Cert.Reference.main_arg9))).2.2 = (fun _ => 1#1)

def Pre_Kernel2 (m : (ℓ : Loc Cert.Kernel2.nD Cert.Kernel2.τ Cert.Kernel2.sig) → Buf (Elt Bits) ℓ) : Prop :=
  True

def Pre_Reference2 (m : (ℓ : Loc Cert.Reference2.nD Cert.Reference2.τ Cert.Reference2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Reference3 (m : (ℓ : Loc Cert.Reference3.nD Cert.Reference3.τ Cert.Reference3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Reference4 (m : (ℓ : Loc Cert.Reference4.nD Cert.Reference4.τ Cert.Reference4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Reference5 (m : (ℓ : Loc Cert.Reference5.nD Cert.Reference5.τ Cert.Reference5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Reference [hReference : Cert.Reference.Facts] [hPre_plan_ok : Cert.Pre_plan_ok.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3)
      ∧ r.2.mem ((c.tc : Thread Cert.Reference5.nD Cert.Reference5.τ).loc Cert.Reference5.main_arg4) = m ((c.tc : Thread Cert.Reference5.nD Cert.Reference5.τ).loc Cert.Reference5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def bitexact_Kernel_Reference [hKernel : Cert.Kernel.Facts] [hReference : Cert.Reference.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)
      ∧ m' ((c.tc : Thread Cert.Reference.nD Cert.Reference.τ).loc Cert.Reference.main_arg9) = m ((c.tc : Thread Cert.Kernel.nD Cert.Kernel.τ).loc Cert.Kernel.main_arg9)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8)
          ∧ r.2.mem ((c.tc : Thread Cert.Reference.nD Cert.Reference.τ).loc Cert.Reference.main_arg9) = m' ((c.tc : Thread Cert.Reference.nD Cert.Reference.τ).loc Cert.Reference.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hReference : Cert.Reference.Facts) (hKernel2 : Cert.Kernel2.Facts) (hReference2 : Cert.Reference2.Facts) (hKernel2Ideal : Cert.Kernel2Ideal.Facts) (hReference2Ideal : Cert.Reference2Ideal.Facts) (hKernel3 : Cert.Kernel3.Facts) (hReference3 : Cert.Reference3.Facts) (hKernel3Ideal : Cert.Kernel3Ideal.Facts) (hReference3Ideal : Cert.Reference3Ideal.Facts) (hKernel4 : Cert.Kernel4.Facts) (hReference4 : Cert.Reference4.Facts) (hKernel4Ideal : Cert.Kernel4Ideal.Facts) (hReference4Ideal : Cert.Reference4Ideal.Facts) (hKernel5 : Cert.Kernel5.Facts) (hReference5 : Cert.Reference5.Facts) (hKernel5Ideal : Cert.Kernel5Ideal.Facts) (hReference5Ideal : Cert.Reference5Ideal.Facts) (hPre_plan_ok : Cert.Pre_plan_ok.Facts),
    quiescent_Kernel (hKernel := hKernel) (hPre_plan_ok := hPre_plan_ok)
    ∧ quiescent_Reference (hReference := hReference) (hPre_plan_ok := hPre_plan_ok)
    ∧ quiescent_Kernel2 (hKernel2 := hKernel2)
    ∧ quiescent_Reference2 (hReference2 := hReference2)
    ∧ quiescent_Kernel2Ideal (hKernel2Ideal := hKernel2Ideal)
    ∧ quiescent_Reference2Ideal (hReference2Ideal := hReference2Ideal)
    ∧ quiescent_Kernel3 (hKernel3 := hKernel3)
    ∧ quiescent_Reference3 (hReference3 := hReference3)
    ∧ quiescent_Kernel3Ideal (hKernel3Ideal := hKernel3Ideal)
    ∧ quiescent_Reference3Ideal (hReference3Ideal := hReference3Ideal)
    ∧ quiescent_Kernel4 (hKernel4 := hKernel4)
    ∧ quiescent_Reference4 (hReference4 := hReference4)
    ∧ quiescent_Kernel4Ideal (hKernel4Ideal := hKernel4Ideal)
    ∧ quiescent_Reference4Ideal (hReference4Ideal := hReference4Ideal)
    ∧ quiescent_Kernel5 (hKernel5 := hKernel5)
    ∧ quiescent_Reference5 (hReference5 := hReference5)
    ∧ quiescent_Kernel5Ideal (hKernel5Ideal := hKernel5Ideal)
    ∧ quiescent_Reference5Ideal (hReference5Ideal := hReference5Ideal)
    ∧ bitexact_Kernel_Reference (hKernel := hKernel) (hReference := hReference) (hPre_plan_ok := hPre_plan_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_plan_ok.lean ====
abbrev S96 : Shape := ⟨1, ![96]⟩
abbrev S196608x128 : Shape := ⟨2, ![196608, 128]⟩
abbrev S2x32x2048x512 : Shape := ⟨4, ![2, 32, 2048, 512]⟩
abbrev S2x32x512x2048 : Shape := ⟨4, ![2, 32, 512, 2048]⟩
abbrev S_ : Shape := ⟨0, ![]⟩
abbrev S95 : Shape := ⟨1, ![95]⟩
abbrev S1 : Shape := ⟨1, ![1]⟩

class Facts : Prop where
  bcast_S_S96 : S_.BroadcastsInDim S96 (![] : Fin 0 → Fin S96.rank)
  slices_S96_S95_1 : S96.Slices ![1] S95
  slices_S96_S95_0 : S96.Slices ![0] S95
  bcast_S_S95 : S_.BroadcastsInDim S95 (![] : Fin 0 → Fin S95.rank)
  slices_S96_S1_0 : S96.Slices ![0] S1
  bcast_S_S1 : S_.BroadcastsInDim S1 (![] : Fin 0 → Fin S1.rank)
  slices_S96_S1_95 : S96.Slices ![95] S1

variable [Facts]

def fn_part4 {F : FTy → Type} [FloatOps F] (main_arg4 : IVec S96 32) (main_arg5 : IVec S96 32) (main_v46 : IVec S96 1) (main_v75 : IVec S95 1) (main_v76 : IVec S1 32) (main_c_17 : IVec S_ 32) : IVec S96 1 × IVec S95 1 × IVec S1 1 :=
  let main_v77 : IVec S1 32 := broadcastInDim S1 ![] bcast_S_S1 main_c_17
  let main_v78 : IVec S1 1 := cmpi .eq main_v76 main_v77
  let main_v79 : IVec S1 32 := (extractStridedSlice S1 ![0] · slices_S96_S1_0) main_arg5
  let main_c_18 : IVec S_ 32 := constantI S_ 32 0#32
  let main_v80 : IVec S1 32 := broadcastInDim S1 ![] bcast_S_S1 main_c_18
  let main_v81 : IVec S1 1 := cmpi .eq main_v79 main_v80
  let main_v82 : IVec S1 1 := andi main_v78 main_v81
  let main_v83 : IVec S1 32 := (extractStridedSlice S1 ![95] · slices_S96_S1_95) main_arg4
  let main_c_19 : IVec S_ 32 := constantI S_ 32 4294967295#32
  let main_v84 : IVec S1 32 := broadcastInDim S1 ![] bcast_S_S1 main_c_19
  let main_v85 : IVec S1 1 := cmpi .eq main_v83 main_v84
  let main_v86 : IVec S1 1 := andi main_v82 main_v85
  (main_v46, main_v75, main_v86)

def fn_part3 {F : FTy → Type} [FloatOps F] (main_arg0 : IVec S96 32) (main_arg1 : IVec S96 32) (main_arg4 : IVec S96 32) (main_arg5 : IVec S96 32) (main_v46 : IVec S96 1) (main_v53 : IVec S95 1) (main_v56 : IVec S95 1) : IVec S96 1 × IVec S95 1 × IVec S1 1 :=
  let main_v57 : IVec S95 1 := andi main_v53 main_v56
  let main_v58 : IVec S95 32 := (extractStridedSlice S95 ![1] · slices_S96_S95_1) main_arg0
  let main_v59 : IVec S95 32 := (extractStridedSlice S95 ![0] · slices_S96_S95_0) main_arg4
  let main_v60 : IVec S95 1 := cmpi .eq main_v58 main_v59
  let main_v61 : IVec S95 32 := (extractStridedSlice S95 ![1] · slices_S96_S95_1) main_arg5
  let main_v62 : IVec S95 32 := (extractStridedSlice S95 ![0] · slices_S96_S95_0) main_arg5
  let main_c_14 : IVec S_ 32 := constantI S_ 32 1#32
  let main_v63 : IVec S95 32 := broadcastInDim S95 ![] bcast_S_S95 main_c_14
  let main_v64 : IVec S95 32 := subi main_v63 main_v62
  let main_v65 : IVec S95 1 := cmpi .eq main_v61 main_v64
  let main_v66 : IVec S95 1 := andi main_v60 main_v65
  let main_v67 : IVec S95 32 := (extractStridedSlice S95 ![1] · slices_S96_S95_1) main_arg1
  let main_c_15 : IVec S_ 32 := constantI S_ 32 0#32
  let main_v68 : IVec S95 32 := broadcastInDim S95 ![] bcast_S_S95 main_c_15
  let main_v69 : IVec S95 1 := cmpi .eq main_v67 main_v68
  let main_v70 : IVec S95 1 := andi main_v69 main_v57
  let main_v71 : IVec S95 32 := (extractStridedSlice S95 ![1] · slices_S96_S95_1) main_arg1
  let main_c_16 : IVec S_ 32 := constantI S_ 32 1#32
  let main_v72 : IVec S95 32 := broadcastInDim S95 ![] bcast_S_S95 main_c_16
  let main_v73 : IVec S95 1 := cmpi .eq main_v71 main_v72
  let main_v74 : IVec S95 1 := andi main_v73 main_v66
  let main_v75 : IVec S95 1 := ori main_v70 main_v74
  let main_v76 : IVec S1 32 := (extractStridedSlice S1 ![0] · slices_S96_S1_0) main_arg1
  let main_c_17 : IVec S_ 32 := constantI S_ 32 1#32
  fn_part4 (F := F) main_arg4 main_arg5 main_v46 main_v75 main_v76 main_c_17

def fn_part2 {F : FTy → Type} [FloatOps F] (main_arg0 : IVec S96 32) (main_arg1 : IVec S96 32) (main_arg4 : IVec S96 32) (main_arg5 : IVec S96 32) (main_v34 : IVec S96 1) (main_v35 : IVec S96 32) : IVec S96 1 × IVec S95 1 × IVec S1 1 :=
  let main_v36 : IVec S96 1 := cmpi .sge main_arg4 main_v35
  let main_v37 : IVec S96 1 := andi main_v34 main_v36
  let main_c_11 : IVec S_ 32 := constantI S_ 32 32#32
  let main_v38 : IVec S96 32 := broadcastInDim S96 ![] bcast_S_S96 main_c_11
  let main_v39 : IVec S96 1 := cmpi .slt main_arg4 main_v38
  let main_v40 : IVec S96 1 := andi main_v37 main_v39
  let main_c_12 : IVec S_ 32 := constantI S_ 32 0#32
  let main_v41 : IVec S96 32 := broadcastInDim S96 ![] bcast_S_S96 main_c_12
  let main_v42 : IVec S96 1 := cmpi .eq main_arg5 main_v41
  let main_c_13 : IVec S_ 32 := constantI S_ 32 1#32
  let main_v43 : IVec S96 32 := broadcastInDim S96 ![] bcast_S_S96 main_c_13
  let main_v44 : IVec S96 1 := cmpi .eq main_arg5 main_v43
  let main_v45 : IVec S96 1 := ori main_v42 main_v44
  let main_v46 : IVec S96 1 := andi main_v40 main_v45
  let main_v47 : IVec S95 32 := (extractStridedSlice S95 ![1] · slices_S96_S95_1) main_arg0
  let main_v48 : IVec S95 32 := (extractStridedSlice S95 ![0] · slices_S96_S95_0) main_arg0
  let main_v49 : IVec S95 1 := cmpi .eq main_v47 main_v48
  let main_v50 : IVec S95 32 := (extractStridedSlice S95 ![1] · slices_S96_S95_1) main_arg4
  let main_v51 : IVec S95 32 := (extractStridedSlice S95 ![0] · slices_S96_S95_0) main_arg4
  let main_v52 : IVec S95 1 := cmpi .eq main_v50 main_v51
  let main_v53 : IVec S95 1 := andi main_v49 main_v52
  let main_v54 : IVec S95 32 := (extractStridedSlice S95 ![1] · slices_S96_S95_1) main_arg5
  let main_v55 : IVec S95 32 := (extractStridedSlice S95 ![0] · slices_S96_S95_0) main_arg5
  let main_v56 : IVec S95 1 := cmpi .eq main_v54 main_v55
  fn_part3 (F := F) main_arg0 main_arg1 main_arg4 main_arg5 main_v46 main_v53 main_v56

def fn_part1 {F : FTy → Type} [FloatOps F] (main_arg0 : IVec S96 32) (main_arg1 : IVec S96 32) (main_arg2 : IVec S96 32) (main_arg3 : IVec S96 32) (main_arg4 : IVec S96 32) (main_arg5 : IVec S96 32) (main_v16 : IVec S96 1) (main_c_5 : IVec S_ 32) : IVec S96 1 × IVec S95 1 × IVec S1 1 :=
  let main_v17 : IVec S96 32 := broadcastInDim S96 ![] bcast_S_S96 main_c_5
  let main_v18 : IVec S96 1 := cmpi .eq main_arg1 main_v17
  let main_c_6 : IVec S_ 32 := constantI S_ 32 1#32
  let main_v19 : IVec S96 32 := broadcastInDim S96 ![] bcast_S_S96 main_c_6
  let main_v20 : IVec S96 1 := cmpi .eq main_arg2 main_v19
  let main_v21 : IVec S96 1 := ori main_v18 main_v20
  let main_v22 : IVec S96 1 := andi main_v16 main_v21
  let main_c_7 : IVec S_ 32 := constantI S_ 32 0#32
  let main_v23 : IVec S96 32 := broadcastInDim S96 ![] bcast_S_S96 main_c_7
  let main_v24 : IVec S96 1 := cmpi .sge main_arg3 main_v23
  let main_v25 : IVec S96 1 := andi main_v22 main_v24
  let main_c_8 : IVec S_ 32 := constantI S_ 32 96#32
  let main_v26 : IVec S96 32 := broadcastInDim S96 ![] bcast_S_S96 main_c_8
  let main_v27 : IVec S96 1 := cmpi .slt main_arg3 main_v26
  let main_v28 : IVec S96 1 := andi main_v25 main_v27
  let main_c_9 : IVec S_ 32 := constantI S_ 32 0#32
  let main_v29 : IVec S96 32 := broadcastInDim S96 ![] bcast_S_S96 main_c_9
  let main_v30 : IVec S96 1 := cmpi .eq main_arg2 main_v29
  let main_v31 : IVec S96 32 := iotaInDim S96 32 0
  let main_v32 : IVec S96 1 := cmpi .eq main_arg3 main_v31
  let main_v33 : IVec S96 1 := ori main_v30 main_v32
  let main_v34 : IVec S96 1 := andi main_v28 main_v33
  let main_c_10 : IVec S_ 32 := constantI S_ 32 4294967295#32
  let main_v35 : IVec S96 32 := broadcastInDim S96 ![] bcast_S_S96 main_c_10
  fn_part2 (F := F) main_arg0 main_arg1 main_arg4 main_arg5 main_v34 main_v35

def fn {F : FTy → Type} [FloatOps F] (main_arg0 : IVec S96 32) (main_arg1 : IVec S96 32) (main_arg2 : IVec S96 32) (main_arg3 : IVec S96 32) (main_arg4 : IVec S96 32) (main_arg5 : IVec S96 32) (main_arg6 : IVec S196608x128 32) (main_arg7 : FVec F S2x32x2048x512 .f32) (main_arg8 : FVec F S2x32x2048x512 .f32) (main_arg9 : FVec F S2x32x512x2048 .f32) : IVec S96 1 × IVec S95 1 × IVec S1 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 32 := constantI S_ 32 0#32
  let main_v5 : IVec S96 32 := broadcastInDim S96 ![] bcast_S_S96 main_c_1
  let main_v6 : IVec S96 1 := cmpi .eq main_arg1 main_v5
  let main_c_2 : IVec S_ 32 := constantI S_ 32 1#32
  let main_v7 : IVec S96 32 := broadcastInDim S96 ![] bcast_S_S96 main_c_2
  let main_v8 : IVec S96 1 := cmpi .eq main_arg1 main_v7
  let main_v9 : IVec S96 1 := ori main_v6 main_v8
  let main_v10 : IVec S96 1 := andi main_v4 main_v9
  let main_c_3 : IVec S_ 32 := constantI S_ 32 0#32
  let main_v11 : IVec S96 32 := broadcastInDim S96 ![] bcast_S_S96 main_c_3
  let main_v12 : IVec S96 1 := cmpi .eq main_arg2 main_v11
  let main_c_4 : IVec S_ 32 := constantI S_ 32 1#32
  let main_v13 : IVec S96 32 := broadcastInDim S96 ![] bcast_S_S96 main_c_4
  let main_v14 : IVec S96 1 := cmpi .eq main_arg2 main_v13
  let main_v15 : IVec S96 1 := ori main_v12 main_v14
  let main_v16 : IVec S96 1 := andi main_v10 main_v15
  let main_c_5 : IVec S_ 32 := constantI S_ 32 0#32
  fn_part1 (F := F) main_arg0 main_arg1 main_arg2 main_arg3 main_arg4 main_arg5 main_v16 main_c_5
-- ==== Kernel.lean ====
abbrev S96 : Shape := ⟨1, ![96]⟩
abbrev S196608x128 : Shape := ⟨2, ![196608, 128]⟩
abbrev S2x32x2048x512 : Shape := ⟨4, ![2, 32, 2048, 512]⟩
abbrev S2x32x512x2048 : Shape := ⟨4, ![2, 32, 512, 2048]⟩
abbrev S2048x128 : Shape := ⟨2, ![2048, 128]⟩
abbrev S1 : Shape := ⟨1, ![1]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2 : Shape := ⟨1, ![2]⟩
abbrev S_ : Shape := ⟨0, ![]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S256x128 : Shape := ⟨2, ![256, 128]⟩
abbrev S256x2048 : Shape := ⟨2, ![256, 2048]⟩
abbrev S256x512 : Shape := ⟨2, ![256, 512]⟩

abbrev nBuf : Space → Nat
  | .hbm => 5
  | .vmem => 10
  | .smem => 6
  | _ => 0

abbrev bufTy : (tb : Table) → Fin (tcTables nBuf tb) → BufTy
  | .hbm, ⟨0, _⟩ => ⟨S196608x128, .i32⟩
  | .hbm, ⟨1, _⟩ => ⟨S2x32x2048x512, .f32⟩
  | .hbm, ⟨2, _⟩ => ⟨S2x32x2048x512, .f32⟩
  | .hbm, ⟨3, _⟩ => ⟨S2x32x512x2048, .f32⟩
  | .hbm, ⟨4, _⟩ => ⟨S196608x128, .i32⟩
  | .local _ .vmem, ⟨0, _⟩ => ⟨S2048x128, .i32⟩
  | .local _ .vmem, ⟨1, _⟩ => ⟨S2048x128, .i32⟩
  | .local _ .vmem, ⟨2, _⟩ => ⟨S2048x128, .i32⟩
  | .local _ .vmem, ⟨3, _⟩ => ⟨S2048x128, .i32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S96, .i32⟩
  | .local _ .smem, ⟨4, _⟩ => ⟨S96, .i32⟩
  | .local _ .smem, ⟨5, _⟩ => ⟨S96, .i32⟩
  | _, _ => ⟨S196608x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg6 : Ref sig .tc := ⟨.hbm, 0, rfl⟩
abbrev main_arg7 : Ref sig .tc := ⟨.hbm, 1, rfl⟩
abbrev main_arg8 : Ref sig .tc := ⟨.hbm, 2, rfl⟩
abbrev main_arg9 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![96], ![false]⟩

abbrev pre0 : Pipeline.Prefetch sig := ⟨6, ![main_arg0.idx, main_arg1.idx, main_arg2.idx, main_arg3.idx, main_arg4.idx, main_arg5.idx], fun | 0 => main_arg0.names | 1 => main_arg1.names | 2 => main_arg2.names | 3 => main_arg3.names | 4 => main_arg4.names | 5 => main_arg5.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off2 (v22 : BitVec 32) : Fin 4 → Nat :=
  let c1_i32_7 : BitVec 32 := 1#32
  let c0_i32_12 : BitVec 32 := 0#32
  let c0_i32_13 : BitVec 32 := 0#32
  ![1, v22.toNat, 0, 0]

def k0_off3 (v22 : BitVec 32) : Fin 4 → Nat :=
  let c1_i32_21 : BitVec 32 := 1#32
  let c0_i32_26 : BitVec 32 := 0#32
  let c0_i32_27 : BitVec 32 := 0#32
  ![1, v22.toNat, 0, 0]

def k0_chk1 (i : grid0.Coords) (v22 : BitVec 32) : Prop :=
  (∀ (k0_h1 : k0_cond1 i = 1#1), ∀ a, (k0_off2 v22) a + S1x1x2048x512.size a ≤ S2x32x2048x512.size a) ∧
  (∀ (k0_h1 : k0_cond1 i = 1#1), ∀ a, (k0_off3 v22) a + S1x1x512x2048.size a ≤ S2x32x512x2048.size a)
theorem k0_off2_inb : ∀ (i : grid0.Coords) (v22 : BitVec 32) (k0_hw1 : k0_chk1 i v22), ∀ (k0_h1 : k0_cond1 i = 1#1), ∀ a, (k0_off2 v22) a + S1x1x2048x512.size a ≤ S2x32x2048x512.size a := fun i v22 k0_hw1 k0_h1 => k0_hw1.1 k0_h1
theorem k0_off3_inb : ∀ (i : grid0.Coords) (v22 : BitVec 32) (k0_hw1 : k0_chk1 i v22), ∀ (k0_h1 : k0_cond1 i = 1#1), ∀ a, (k0_off3 v22) a + S1x1x512x2048.size a ≤ S2x32x512x2048.size a := fun i v22 k0_hw1 k0_h1 => k0_hw1.2 k0_h1

def k0_off4 (i : grid0.Coords) : Fin 1 → Nat :=
  let arg0 : BitVec 32 := BitVec.ofNat 32 (i 0).val
  let v22 : Index := Scalar.indexCast arg0
  ![v22.toNat]
def k0_off5 (i : grid0.Coords) : Fin 1 → Nat :=
  let arg0 : BitVec 32 := BitVec.ofNat 32 (i 0).val
  let v70 : Index := Scalar.indexCast arg0
  ![v70.toNat]
def k0_off6 (v23 : BitVec 32) : Fin 1 → Nat :=
  let c1_i32_35 : BitVec 32 := 1#32
  let v72 : BitVec 32 := Scalar.subi c1_i32_35 v23
  ![v72.toNat]
def k0_cond2 (v4 : BitVec 32) (v7 : BitVec 32) : BitVec 1 :=
  let c1_i32 : BitVec 32 := 1#32
  let v5 : BitVec 1 := Scalar.cmpi .eq v4 c1_i32
  let c1_i32_1 : BitVec 32 := 1#32
  let v8 : BitVec 1 := Scalar.cmpi .eq v7 c1_i32_1
  let v9 : BitVec 1 := Scalar.andi v5 v8
  let v10 : BitVec 32 := Scalar.extui v9
  let c0_i32_2 : BitVec 32 := 0#32
  let v11 : BitVec 1 := Scalar.cmpi .ne v10 c0_i32_2
  v11

def k0_cond3 (v25 : BitVec 32) : BitVec 1 :=
  let c0_i32_7 : BitVec 32 := 0#32
  let v26 : BitVec 1 := Scalar.cmpi .sge v25 c0_i32_7
  let v27 : BitVec 32 := Scalar.extui v26
  let c0_i32_8 : BitVec 32 := 0#32
  let v28 : BitVec 1 := Scalar.cmpi .ne v27 c0_i32_8
  v28

def k0_off7 (v23 : BitVec 32) : Fin 3 → Nat :=
  let c1_i32_35 : BitVec 32 := 1#32
  let v72 : BitVec 32 := Scalar.subi c1_i32_35 v23
  let c0_i32_37 : BitVec 32 := 0#32
  let c0_i32_38 : BitVec 32 := 0#32
  ![v72.toNat, 0, 0]
def k0_off8 (v71 : BitVec 32) : Fin 4 → Nat :=
  let c1_i32_36 : BitVec 32 := 1#32
  let c0_i32_39 : BitVec 32 := 0#32
  let c0_i32_40 : BitVec 32 := 0#32
  ![1, v71.toNat, 0, 0]

def k0_off9 (v23 : BitVec 32) : Fin 1 → Nat :=
  let c1_i32_35 : BitVec 32 := 1#32
  let v72 : BitVec 32 := Scalar.subi c1_i32_35 v23
  ![v72.toNat]
def k0_off10 (v23 : BitVec 32) : Fin 3 → Nat :=
  let c1_i32_35 : BitVec 32 := 1#32
  let v72 : BitVec 32 := Scalar.subi c1_i32_35 v23
  let c0_i32_42 : BitVec 32 := 0#32
  let c0_i32_43 : BitVec 32 := 0#32
  ![v72.toNat, 0, 0]
def k0_off11 (v23 : BitVec 32) : Fin 3 → Nat :=
  let c1_i32_35 : BitVec 32 := 1#32
  let v72 : BitVec 32 := Scalar.subi c1_i32_35 v23
  let c0_i32_47 : BitVec 32 := 0#32
  let c0_i32_48 : BitVec 32 := 0#32
  ![v72.toNat, 0, 0]

def k0_chk2 (v4 : BitVec 32) (v7 : BitVec 32) (v23 : BitVec 32) (v25 : BitVec 32) : Prop :=
  (∀ (k0_h2 : k0_cond2 v4 v7 = 1#1), ∀ (k0_h3 : k0_cond3 v25 = 1#1), ∀ a, (k0_off6 v23) a + S1.size a ≤ S2.size a) ∧
  (∀ (k0_h2 : k0_cond2 v4 v7 = 1#1), ∀ (k0_h3 : k0_cond3 v25 = 1#1), ∀ a, (k0_off7 v23) a + S1x2048x512.size a ≤ S2x2048x512.size a) ∧
  (∀ (k0_h2 : k0_cond2 v4 v7 = 1#1), ∀ (k0_h3 : k0_cond3 v25 = 1#1), ∀ a, (k0_off9 v23) a + S1.size a ≤ S2.size a) ∧
  (∀ (k0_h2 : k0_cond2 v4 v7 = 1#1), ∀ (k0_h3 : k0_cond3 v25 = 1#1), ∀ a, (k0_off10 v23) a + S1x2048x512.size a ≤ S2x2048x512.size a) ∧
  (∀ (k0_h2 : k0_cond2 v4 v7 = 1#1), ∀ (k0_h3 : k0_cond3 v25 = 1#1), ∀ a, (k0_off11 v23) a + S1x512x2048.size a ≤ S2x512x2048.size a)
theorem k0_off6_inb : ∀ (v4 : BitVec 32) (v7 : BitVec 32) (v23 : BitVec 32) (v25 : BitVec 32) (k0_hw2 : k0_chk2 v4 v7 v23 v25), ∀ (k0_h2 : k0_cond2 v4 v7 = 1#1), ∀ (k0_h3 : k0_cond3 v25 = 1#1), ∀ a, (k0_off6 v23) a + S1.size a ≤ S2.size a := fun v4 v7 v23 v25 k0_hw2 k0_h2 k0_h3 => k0_hw2.1 k0_h2 k0_h3
theorem k0_off7_inb : ∀ (v4 : BitVec 32) (v7 : BitVec 32) (v23 : BitVec 32) (v25 : BitVec 32) (k0_hw2 : k0_chk2 v4 v7 v23 v25), ∀ (k0_h2 : k0_cond2 v4 v7 = 1#1), ∀ (k0_h3 : k0_cond3 v25 = 1#1), ∀ a, (k0_off7 v23) a + S1x2048x512.size a ≤ S2x2048x512.size a := fun v4 v7 v23 v25 k0_hw2 k0_h2 k0_h3 => k0_hw2.2.1 k0_h2 k0_h3
theorem k0_off9_inb : ∀ (v4 : BitVec 32) (v7 : BitVec 32) (v23 : BitVec 32) (v25 : BitVec 32) (k0_hw2 : k0_chk2 v4 v7 v23 v25), ∀ (k0_h2 : k0_cond2 v4 v7 = 1#1), ∀ (k0_h3 : k0_cond3 v25 = 1#1), ∀ a, (k0_off9 v23) a + S1.size a ≤ S2.size a := fun v4 v7 v23 v25 k0_hw2 k0_h2 k0_h3 => k0_hw2.2.2.1 k0_h2 k0_h3
theorem k0_off10_inb : ∀ (v4 : BitVec 32) (v7 : BitVec 32) (v23 : BitVec 32) (v25 : BitVec 32) (k0_hw2 : k0_chk2 v4 v7 v23 v25), ∀ (k0_h2 : k0_cond2 v4 v7 = 1#1), ∀ (k0_h3 : k0_cond3 v25 = 1#1), ∀ a, (k0_off10 v23) a + S1x2048x512.size a ≤ S2x2048x512.size a := fun v4 v7 v23 v25 k0_hw2 k0_h2 k0_h3 => k0_hw2.2.2.2.1 k0_h2 k0_h3
theorem k0_off11_inb : ∀ (v4 : BitVec 32) (v7 : BitVec 32) (v23 : BitVec 32) (v25 : BitVec 32) (k0_hw2 : k0_chk2 v4 v7 v23 v25), ∀ (k0_h2 : k0_cond2 v4 v7 = 1#1), ∀ (k0_h3 : k0_cond3 v25 = 1#1), ∀ a, (k0_off11 v23) a + S1x512x2048.size a ≤ S2x512x2048.size a := fun v4 v7 v23 v25 k0_hw2 k0_h2 k0_h3 => k0_hw2.2.2.2.2 k0_h2 k0_h3

def k0_off12 (v71 : BitVec 32) : Fin 4 → Nat :=
  let c1_i32_46 : BitVec 32 := 1#32
  let c0_i32_49 : BitVec 32 := 0#32
  let c0_i32_50 : BitVec 32 := 0#32
  ![1, v71.toNat, 0, 0]

def k0_chk3 (v4 : BitVec 32) (v7 : BitVec 32) (v25 : BitVec 32) (v71 : BitVec 32) : Prop :=
  (∀ (k0_h2 : k0_cond2 v4 v7 = 1#1), ∀ (k0_h3 : k0_cond3 v25 = 1#1), ∀ a, (k0_off8 v71) a + S1x1x2048x512.size a ≤ S2x32x2048x512.size a) ∧
  (∀ (k0_h2 : k0_cond2 v4 v7 = 1#1), ∀ (k0_h3 : k0_cond3 v25 = 1#1), ∀ a, (k0_off12 v71) a + S1x1x512x2048.size a ≤ S2x32x512x2048.size a)
theorem k0_off8_inb : ∀ (v4 : BitVec 32) (v7 : BitVec 32) (v25 : BitVec 32) (v71 : BitVec 32) (k0_hw3 : k0_chk3 v4 v7 v25 v71), ∀ (k0_h2 : k0_cond2 v4 v7 = 1#1), ∀ (k0_h3 : k0_cond3 v25 = 1#1), ∀ a, (k0_off8 v71) a + S1x1x2048x512.size a ≤ S2x32x2048x512.size a := fun v4 v7 v25 v71 k0_hw3 k0_h2 k0_h3 => k0_hw3.1 k0_h2 k0_h3
theorem k0_off12_inb : ∀ (v4 : BitVec 32) (v7 : BitVec 32) (v25 : BitVec 32) (v71 : BitVec 32) (k0_hw3 : k0_chk3 v4 v7 v25 v71), ∀ (k0_h2 : k0_cond2 v4 v7 = 1#1), ∀ (k0_h3 : k0_cond3 v25 = 1#1), ∀ a, (k0_off12 v71) a + S1x1x512x2048.size a ≤ S2x32x512x2048.size a := fun v4 v7 v25 v71 k0_hw3 k0_h2 k0_h3 => k0_hw3.2 k0_h2 k0_h3

def k0_off13 (i : grid0.Coords) : Fin 1 → Nat :=
  let arg0 : BitVec 32 := BitVec.ofNat 32 (i 0).val
  let v29 : Index := Scalar.indexCast arg0
  ![v29.toNat]
def k0_off14 (v23 : BitVec 32) : Fin 1 → Nat :=
  ![v23.toNat]

def k0_off15 (v23 : BitVec 32) : Fin 3 → Nat :=
  let c0_i32_10 : BitVec 32 := 0#32
  let c0_i32_11 : BitVec 32 := 0#32
  ![v23.toNat, 0, 0]
def k0_off16 (v30 : BitVec 32) : Fin 4 → Nat :=
  let c1_i32_9 : BitVec 32 := 1#32
  let c0_i32_12 : BitVec 32 := 0#32
  let c0_i32_13 : BitVec 32 := 0#32
  ![1, v30.toNat, 0, 0]

def k0_off17 (v23 : BitVec 32) : Fin 1 → Nat :=
  ![v23.toNat]
def k0_off18 (v23 : BitVec 32) : Fin 3 → Nat :=
  let c0_i32_15 : BitVec 32 := 0#32
  let c0_i32_16 : BitVec 32 := 0#32
  ![v23.toNat, 0, 0]
def k0_off19 (v23 : BitVec 32) : Fin 3 → Nat :=
  let c0_i32_20 : BitVec 32 := 0#32
  let c0_i32_21 : BitVec 32 := 0#32
  ![v23.toNat, 0, 0]
def k0_off20 (v30 : BitVec 32) : Fin 4 → Nat :=
  let c1_i32_19 : BitVec 32 := 1#32
  let c0_i32_22 : BitVec 32 := 0#32
  let c0_i32_23 : BitVec 32 := 0#32
  ![1, v30.toNat, 0, 0]

def k0_chk5 (v4 : BitVec 32) (v7 : BitVec 32) (v30 : BitVec 32) : Prop :=
  (∀ (k0_h2 : k0_cond2 v4 v7 = 1#1), ∀ a, (k0_off16 v30) a + S1x1x2048x512.size a ≤ S2x32x2048x512.size a) ∧
  (∀ (k0_h2 : k0_cond2 v4 v7 = 1#1), ∀ a, (k0_off20 v30) a + S1x1x512x2048.size a ≤ S2x32x512x2048.size a)
theorem k0_off16_inb : ∀ (v4 : BitVec 32) (v7 : BitVec 32) (v30 : BitVec 32) (k0_hw5 : k0_chk5 v4 v7 v30), ∀ (k0_h2 : k0_cond2 v4 v7 = 1#1), ∀ a, (k0_off16 v30) a + S1x1x2048x512.size a ≤ S2x32x2048x512.size a := fun v4 v7 v30 k0_hw5 k0_h2 => k0_hw5.1 k0_h2
theorem k0_off20_inb : ∀ (v4 : BitVec 32) (v7 : BitVec 32) (v30 : BitVec 32) (k0_hw5 : k0_chk5 v4 v7 v30), ∀ (k0_h2 : k0_cond2 v4 v7 = 1#1), ∀ a, (k0_off20 v30) a + S1x1x512x2048.size a ≤ S2x32x512x2048.size a := fun v4 v7 v30 k0_hw5 k0_h2 => k0_hw5.2 k0_h2

def k0_off21 (v23 : BitVec 32) : Fin 3 → Nat :=
  let v49 : Index := Scalar.indexCast v23
  let c0 : Index := 0#32
  let c0_24 : Index := 0#32
  ![v49.toNat, 0, 0]
def k0_off22 (v23 : BitVec 32) : Fin 3 → Nat :=
  let v63 : Index := Scalar.indexCast v23
  let c0_31 : Index := 0#32
  let c0_32 : Index := 0#32
  ![v63.toNat, 0, 0]

def k0_chk4 (v4 : BitVec 32) (v7 : BitVec 32) (v23 : BitVec 32) : Prop :=
  (∀ (k0_h2 : k0_cond2 v4 v7 = 1#1), ∀ a, (k0_off14 v23) a + S1.size a ≤ S2.size a) ∧
  (∀ (k0_h2 : k0_cond2 v4 v7 = 1#1), ∀ a, (k0_off15 v23) a + S1x2048x512.size a ≤ S2x2048x512.size a) ∧
  (∀ (k0_h2 : k0_cond2 v4 v7 = 1#1), ∀ a, (k0_off17 v23) a + S1.size a ≤ S2.size a) ∧
  (∀ (k0_h2 : k0_cond2 v4 v7 = 1#1), ∀ a, (k0_off18 v23) a + S1x2048x512.size a ≤ S2x2048x512.size a) ∧
  (∀ (k0_h2 : k0_cond2 v4 v7 = 1#1), ∀ a, (k0_off19 v23) a + S1x512x2048.size a ≤ S2x512x2048.size a) ∧
  (∀ (k0_h2 : k0_cond2 v4 v7 = 1#1), ∀ a, (k0_off21 v23) a + S1x2048x512.size a ≤ S2x2048x512.size a) ∧
  (∀ (k0_h2 : k0_cond2 v4 v7 = 1#1), ∀ a, (k0_off22 v23) a + S1x512x2048.size a ≤ S2x512x2048.size a)
theorem k0_off14_inb : ∀ (v4 : BitVec 32) (v7 : BitVec 32) (v23 : BitVec 32) (k0_hw4 : k0_chk4 v4 v7 v23), ∀ (k0_h2 : k0_cond2 v4 v7 = 1#1), ∀ a, (k0_off14 v23) a + S1.size a ≤ S2.size a := fun v4 v7 v23 k0_hw4 k0_h2 => k0_hw4.1 k0_h2
theorem k0_off15_inb : ∀ (v4 : BitVec 32) (v7 : BitVec 32) (v23 : BitVec 32) (k0_hw4 : k0_chk4 v4 v7 v23), ∀ (k0_h2 : k0_cond2 v4 v7 = 1#1), ∀ a, (k0_off15 v23) a + S1x2048x512.size a ≤ S2x2048x512.size a := fun v4 v7 v23 k0_hw4 k0_h2 => k0_hw4.2.1 k0_h2
theorem k0_off17_inb : ∀ (v4 : BitVec 32) (v7 : BitVec 32) (v23 : BitVec 32) (k0_hw4 : k0_chk4 v4 v7 v23), ∀ (k0_h2 : k0_cond2 v4 v7 = 1#1), ∀ a, (k0_off17 v23) a + S1.size a ≤ S2.size a := fun v4 v7 v23 k0_hw4 k0_h2 => k0_hw4.2.2.1 k0_h2
theorem k0_off18_inb : ∀ (v4 : BitVec 32) (v7 : BitVec 32) (v23 : BitVec 32) (k0_hw4 : k0_chk4 v4 v7 v23), ∀ (k0_h2 : k0_cond2 v4 v7 = 1#1), ∀ a, (k0_off18 v23) a + S1x2048x512.size a ≤ S2x2048x512.size a := fun v4 v7 v23 k0_hw4 k0_h2 => k0_hw4.2.2.2.1 k0_h2
theorem k0_off19_inb : ∀ (v4 : BitVec 32) (v7 : BitVec 32) (v23 : BitVec 32) (k0_hw4 : k0_chk4 v4 v7 v23), ∀ (k0_h2 : k0_cond2 v4 v7 = 1#1), ∀ a, (k0_off19 v23) a + S1x512x2048.size a ≤ S2x512x2048.size a := fun v4 v7 v23 k0_hw4 k0_h2 => k0_hw4.2.2.2.2.1 k0_h2
theorem k0_off21_inb : ∀ (v4 : BitVec 32) (v7 : BitVec 32) (v23 : BitVec 32) (k0_hw4 : k0_chk4 v4 v7 v23), ∀ (k0_h2 : k0_cond2 v4 v7 = 1#1), ∀ a, (k0_off21 v23) a + S1x2048x512.size a ≤ S2x2048x512.size a := fun v4 v7 v23 k0_hw4 k0_h2 => k0_hw4.2.2.2.2.2.1 k0_h2
theorem k0_off22_inb : ∀ (v4 : BitVec 32) (v7 : BitVec 32) (v23 : BitVec 32) (k0_hw4 : k0_chk4 v4 v7 v23), ∀ (k0_h2 : k0_cond2 v4 v7 = 1#1), ∀ a, (k0_off22 v23) a + S1x512x2048.size a ≤ S2x512x2048.size a := fun v4 v7 v23 k0_hw4 k0_h2 => k0_hw4.2.2.2.2.2.2 k0_h2

def k0_off23 (i : grid0.Coords) : Fin 1 → Nat :=
  let arg0 : BitVec 32 := BitVec.ofNat 32 (i 0).val
  let v12 : Index := Scalar.indexCast arg0
  ![v12.toNat]
def k0_off24 (i : grid0.Coords) : Fin 1 → Nat :=
  let arg0 : BitVec 32 := BitVec.ofNat 32 (i 0).val
  let v17 : Index := Scalar.indexCast arg0
  ![v17.toNat]
def k0_cond4 (v13 : BitVec 32) : BitVec 1 :=
  let c1_i32_3 : BitVec 32 := 1#32
  let v14 : BitVec 1 := Scalar.cmpi .eq v13 c1_i32_3
  let v15 : BitVec 32 := Scalar.extui v14
  let c0_i32_4 : BitVec 32 := 0#32
  let v16 : BitVec 1 := Scalar.cmpi .ne v15 c0_i32_4
  v16

def k0_cond5 (v18 : BitVec 32) : BitVec 1 :=
  let c0_i32_5 : BitVec 32 := 0#32
  let v19 : BitVec 1 := Scalar.cmpi .eq v18 c0_i32_5
  let v20 : BitVec 32 := Scalar.extui v19
  let c0_i32_6 : BitVec 32 := 0#32
  let v21 : BitVec 1 := Scalar.cmpi .ne v20 c0_i32_6
  v21

def cc0_transform_0 (k0_off1_inb : ∀ i : grid0.Coords, ∀ a, (k0_off1 i) a + S1.size a ≤ S96.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S96) ![v0.toNat] S1.size (k0_off1_inb i)) numel1_S1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S96 : Shape := ⟨1, ![96]⟩
abbrev S196608x128 : Shape := ⟨2, ![196608, 128]⟩
abbrev S2x32x2048x512 : Shape := ⟨4, ![2, 32, 2048, 512]⟩
abbrev S2x32x512x2048 : Shape := ⟨4, ![2, 32, 512, 2048]⟩
abbrev S1 : Shape := ⟨1, ![1]⟩
abbrev S2048x128 : Shape := ⟨2, ![2048, 128]⟩
abbrev S256x1024 : Shape := ⟨2, ![256, 1024]⟩
abbrev S256x2048 : Shape := ⟨2, ![256, 2048]⟩
abbrev S1x1x2048x512 : Shape := ⟨4, ![1, 1, 2048, 512]⟩
abbrev S2048x512 : Shape := ⟨2, ![2048, 512]⟩
abbrev S256x512 : Shape := ⟨2, ![256, 512]⟩
abbrev S1x1x512x2048 : Shape := ⟨4, ![1, 1, 512, 2048]⟩
abbrev S512x2048 : Shape := ⟨2, ![512, 2048]⟩

abbrev nBuf : Space → Nat
  | .hbm => 11
  | .vmem => 5
  | .smem => 2
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S96, .i32⟩
  | .hbm, ⟨3, _⟩ => ⟨S96, .i32⟩
  | .hbm, ⟨4, _⟩ => ⟨S96, .i32⟩
  | .hbm, ⟨5, _⟩ => ⟨S96, .i32⟩
  | .hbm, ⟨6, _⟩ => ⟨S196608x128, .i32⟩
  | .hbm, ⟨7, _⟩ => ⟨S2x32x2048x512, .f32⟩
  | .hbm, ⟨8, _⟩ => ⟨S2x32x2048x512, .f32⟩
  | .hbm, ⟨9, _⟩ => ⟨S2x32x512x2048, .f32⟩
  | .hbm, ⟨10, _⟩ => ⟨S196608x128, .i32⟩
  | .local _ .vmem, ⟨0, _⟩ => ⟨S196608x128, .i32⟩
  | .local _ .vmem, ⟨1, _⟩ => ⟨S2x32x2048x512, .f32⟩
  | .local _ .vmem, ⟨2, _⟩ => ⟨S2x32x2048x512, .f32⟩
  | .local _ .vmem, ⟨3, _⟩ => ⟨S2x32x512x2048, .f32⟩
  | .local _ .vmem, ⟨4, _⟩ => ⟨S196608x128, .i32⟩
  | .local _ .smem, ⟨0, _⟩ => ⟨S96, .i32⟩
  | .local _ .smem, ⟨1, _⟩ => ⟨S96, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c96_i32 : BitVec 32 := 96#32
  let v0 : BitVec 32 := Scalar.addi c0_i32 c96_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg7 : BitVec 32 := Scf.iv c0_i32 c1_i32 k0_t1
  let v1 : Index := Scalar.indexCast arg7
  ![v1.toNat]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32 : BitVec 32 := 2048#32
  let v3 : BitVec 32 := Scalar.muli arg7 c2048_i32
  let v4 : Index := Scalar.indexCast v3
  let c0 : Index := 0#32
  ![v4.toNat, 0]
def k0_off3 (v2 : BitVec 32) : Fin 4 → Nat :=
  let c1 : Index := 1#32
  let v11 : Index := Scalar.indexCast v2
  let c0_1 : Index := 0#32
  let c0_2 : Index := 0#32
  ![1, v11.toNat, 0, 0]

def k0_off4 (v2 : BitVec 32) : Fin 4 → Nat :=
  let c1_7 : Index := 1#32
  let v25 : Index := Scalar.indexCast v2
  let c0_8 : Index := 0#32
  let c0_9 : Index := 0#32
  ![1, v25.toNat, 0, 0]

def k0_chk1 (v2 : BitVec 32) : Prop :=
  (∀ a, (k0_off3 v2) a + S1x1x2048x512.size a ≤ S2x32x2048x512.size a) ∧
  (∀ a, (k0_off4 v2) a + S1x1x512x2048.size a ≤ S2x32x512x2048.size a)
theorem k0_off3_inb : ∀ (v2 : BitVec 32) (k0_hw1 : k0_chk1 v2), ∀ a, (k0_off3 v2) a + S1x1x2048x512.size a ≤ S2x32x2048x512.size a := fun v2 k0_hw1 => k0_hw1.1
theorem k0_off4_inb : ∀ (v2 : BitVec 32) (k0_hw1 : k0_chk1 v2), ∀ a, (k0_off4 v2) a + S1x1x512x2048.size a ≤ S2x32x512x2048.size a := fun v2 k0_hw1 => k0_hw1.2

def k0_off5 (k0_t1 : Fin k0_t1_loop.trips) : Fin 1 → Nat :=
  let c0_i32 : BitVec 32 := 0#32
  let c1_i32 : BitVec 32 := 1#32
  let arg7 : BitVec 32 := Scf.iv c0_i32 c1_i32 k0_t1
  let v33 : Index := Scalar.indexCast arg7
  ![v33.toNat]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c2048_i32_13 : BitVec 32 := 2048#32
  let v39 : BitVec 32 := Scalar.muli arg7 c2048_i32_13
  let v40 : Index := Scalar.indexCast v39
  let c0_14 : Index := 0#32
  ![v40.toNat, 0]
abbrev stage0_0 : Fin 1 → Memref sig .tc .smem S96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S96 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S196608x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S196608x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .f32⟩
  | .hbm, ⟨2, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .f32⟩
  | .hbm, ⟨2, _⟩ => ⟨S8192x2048, .f32⟩
  | .hbm, ⟨3, _⟩ => ⟨S8192x12288, .f32⟩
  | .hbm, ⟨4, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8192x4096 : Shape := ⟨2, ![8192, 4096]⟩
abbrev S4096x2048 : Shape := ⟨2, ![4096, 2048]⟩
abbrev S8192x2048 : Shape := ⟨2, ![8192, 2048]⟩
abbrev S4x1x2048 : Shape := ⟨3, ![4, 1, 2048]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S4x1x2048, .f32⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3.lean ====
abbrev S8192x4096 : Shape := ⟨2, ![8192, 4096]⟩
abbrev S4096x2048 : Shape := ⟨2, ![4096, 2048]⟩
abbrev S8192x2048 : Shape := ⟨2, ![8192, 2048]⟩
abbrev S4x1x2048 : Shape := ⟨3, ![4, 1, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .f32⟩
  | .hbm, ⟨2, _⟩ => ⟨S8192x2048, .f32⟩
  | .hbm, ⟨3, _⟩ => ⟨S4x1x2048, .f32⟩
  | .hbm, ⟨4, _⟩ => ⟨S8192x4096, .f32⟩
  | .hbm, ⟨5, _⟩ => ⟨S8192x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S2048x2048 : Shape := ⟨2, ![2048, 2048]⟩
abbrev S8192x2048 : Shape := ⟨2, ![8192, 2048]⟩
abbrev S4x1x2048 : Shape := ⟨3, ![4, 1, 2048]⟩
abbrev S1024x1024 : Shape := ⟨2, ![1024, 1024]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S4x1x2048, .f32⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5.lean ====
abbrev S8192x1024 : Shape := ⟨2, ![8192, 1024]⟩
abbrev S2048x2048 : Shape := ⟨2, ![2048, 2048]⟩
abbrev S8192x2048 : Shape := ⟨2, ![8192, 2048]⟩
abbrev S4x1x2048 : Shape := ⟨3, ![4, 1, 2048]⟩
abbrev S4x2048x2048 : Shape := ⟨3, ![4, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .f32⟩
  | .hbm, ⟨3, _⟩ => ⟨S8192x2048, .f32⟩
  | .hbm, ⟨4, _⟩ => ⟨S4x1x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.InProj.lean ====
/- The input projection: its blocks are the product's. -/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

variable (m : (ℓ : Loc nD τ sig) → Buf (Elt Ideal) ℓ)

/-- The reference's result over the arguments. -/
abbrev REF (X : FVec Ideal S8192x2048 .bf16) (Wt : FVec Ideal S2048x12288 .f32) : FVec Ideal S8192x12288 .bf16 :=
  truncf .bf16 (Host.dotGeneral (F := Ideal) (φ₁ := .f32) (φ₂ := .f32) Cert.Reference2Ideal.dot_S8192x2048_S2048x12288_S8192x12288_1_0_0_1_n_n none (extf .f32 X Cert.Reference2Ideal.Gen.bitsLt_bf16_f32) Wt) Cert.Reference2Ideal.Gen.bitsLt_bf16_f32

/-- The windows' block indices. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The weights' block is the same at the points of one column of the result. -/
theorem weights_prev (c : Dev nD) (t u : Fin cfg0.N) (h : t.val / 8 = u.val / 8) : iblk m c 1 t = iblk m c 1 u := by
  funext x
  have e : win0_1.index t = win0_1.index u := by rw [(idx t).2.1, (idx u).2.1, h]
  blk_ext [iblk, V, e]

/-- The scratch holds the rounded weights' block of the point. -/
theorem scratch (c : Dev nD) (t : Fin cfg0.N) : (outsAt0 m c t.val t.isLt).2 = k0_pay1 (F := Ideal) (iblk m c 1 t) := by
  obtain ⟨n, hn⟩ := t
  induction n with
  | zero => rw [outsAt0_A m c ⟨0, hn⟩ (Nat.zero_mod _)]; frame_out
  | succ n ih =>
    by_cases h : (n + 1) % 8 = 0
    · rw [outsAt0_A m c ⟨n + 1, hn⟩ h]; frame_out
    · rw [outsAt0_B m c ⟨n + 1, hn⟩ h]
      have e := ih (Nat.lt_of_succ_lt hn)
      rw [weights_prev m c ⟨n, Nat.lt_of_succ_lt hn⟩ ⟨n + 1, hn⟩ (by show n / 8 = (n + 1) / 8; omega)] at e
      exact e

/-- What a point leaves in the result's block. -/
theorem block (c : Dev nD) (t : Fin cfg0.N) : (outsAt0 m c t.val t.isLt).1 = k0_pay2 (F := Ideal) (iblk m c 0 t) (k0_pay1 (F := Ideal) (iblk m c 1 t))  := by
  by_cases h : t.val % 8 = 0
  · rw [outsAt0_A m c t h]; frame_out
  · rw [← scratch m c t, outsAt0_B m c t h]; frame_out
    unfold sout0_B_0
    exact congrArg (fun s => k0_pay2 (F := Ideal) (iblk m c 0 t) s ) ((Memref.isWhole_whole cc0_scratch0).read_unread _)

/-- One element of the block is the reference's. -/
theorem point (c : Dev nD) (t : Fin cfg0.N) (y : S1024x1024.Idx) : k0_pay2 (F := Ideal) (iblk m c 0 t) (k0_pay1 (F := Ideal) (iblk m c 1 t))  y
    = REF (m ((c : Thread nD τ).loc main_arg0)) (m ((c : Thread nD τ).loc main_arg1)) (((cfg0.win 2).blk t).view.emb y) := by
  pointwise [k0_pay2, k0_pay1, REF]
  blk_point [iblk, V, idx t]

/-- The result array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2, block]
  exact point m c t y

end Cert.Kernel2Ideal.Value

end
-- ==== Proof.OutProj.lean ====
/- The output projection: its blocks are those of the residual plus the gated product. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

variable (m : (ℓ : Loc nD τ sig) → Buf (Elt Ideal) ℓ)

/-- The reference's result over the arguments. -/
abbrev REF (X : FVec Ideal S8192x4096 .bf16) (Wt : FVec Ideal S4096x2048 .f32) (Z : FVec Ideal S8192x2048 .f32) (Gt : FVec Ideal S4x1x2048 .f32) : FVec Ideal S8192x2048 .f32 :=
  shapeCast _ (addf (shapeCast _ Z Cert.Reference3Ideal.Gen.shapeCasts_S8192x2048_S4x2048x2048) (mulf (broadcastInDim Cert.Reference3Ideal.S4x2048x2048 ![0, 1, 2] Cert.Reference3Ideal.Gen.bcast_S4x1x2048_S4x2048x2048_0_1_2 Gt) (shapeCast _ (Host.dotGeneral (F := Ideal) (φ₁ := .f32) (φ₂ := .f32) Cert.Reference3Ideal.dot_S8192x4096_S4096x2048_S8192x2048_1_0_0_1_n_n none (extf .f32 X Cert.Reference3Ideal.Gen.bitsLt_bf16_f32) Wt) Cert.Reference3Ideal.Gen.shapeCasts_S8192x2048_S4x2048x2048))) Cert.Reference3Ideal.Gen.shapeCasts_S4x2048x2048_S8192x2048

/-- The windows' block indices. -/
theorem idx : ∀ t : Fin cfg0.N, win0_0.index t = ![t.val % 8, 0] ∧ win0_1.index t = ![0, t.val / 8] ∧ win0_2.index t = ![t.val % 8, t.val / 8] ∧ win0_3.index t = ![t.val % 8 / 2, 0, t.val / 8] ∧ win0_4.index t = ![t.val % 8, t.val / 8] :=
  (by decide +kernel : ∀ t : Fin grid0.N, _)

/-- The weights' block is the same at the points of one column of the result. -/
theorem weights_prev (c : Dev nD) (t u : Fin cfg0.N) (h : t.val / 8 = u.val / 8) : iblk m c 1 t = iblk m c 1 u := by
  funext x
  have e : win0_1.index t = win0_1.index u := by rw [(idx t).2.1, (idx u).2.1, h]
  blk_ext [iblk, V, e]

/-- The scratch holds the rounded weights' block of the point. -/
theorem scratch (c : Dev nD) (t : Fin cfg0.N) : (outsAt0 m c t.val t.isLt).2 = k0_pay1 (F := Ideal) (iblk m c 1 t) := by
  obtain ⟨n, hn⟩ := t
  induction n with
  | zero => rw [outsAt0_A m c ⟨0, hn⟩ (Nat.zero_mod _)]; frame_out
  | succ n ih =>
    by_cases h : (n + 1) % 8 = 0
    · rw [outsAt0_A m c ⟨n + 1, hn⟩ h]; frame_out
    · rw [outsAt0_B m c ⟨n + 1, hn⟩ h]
      have e := ih (Nat.lt_of_succ_lt hn)
      rw [weights_prev m c ⟨n, Nat.lt_of_succ_lt hn⟩ ⟨n + 1, hn⟩ (by show n / 8 = (n + 1) / 8; omega)] at e
      exact e

/-- What a point leaves in the result's block. -/
theorem block (c : Dev nD) (t : Fin cfg0.N) : (outsAt0 m c t.val t.isLt).1 = k0_pay2 (F := Ideal) (iblk m c 0 t) (k0_pay1 (F := Ideal) (iblk m c 1 t)) (iblk m c 2 t) (iblk m c 3 t) := by
  by_cases h : t.val % 8 = 0
  · rw [outsAt0_A m c t h]; frame_out
  · rw [← scratch m c t, outsAt0_B m c t h]; frame_out
    unfold sout0_B_0
    exact congrArg (fun s => k0_pay2 (F := Ideal) (iblk m c 0 t) s (iblk m c 2 t) (iblk m c 3 t)) ((Memref.isWhole_whole cc0_scratch0).read_unread _)

/-- One element of the block is the reference's. -/
theorem point (c : Dev nD) (t : Fin cfg0.N) (y : S1024x512.Idx) : k0_pay2 (F := Ideal) (iblk m c 0 t) (k0_pay1 (F := Ideal) (iblk m c 1 t)) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay2, k0_pay1, REF]
  blk_point [iblk, V, idx t]

/-- The result array. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, block]
  exact point m c t y

end Cert.Kernel3Ideal.Value

end
-- ==== Proof.InProjEven.lean ====
/- The even layer's input projection: its blocks are the product's. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

variable (m : (ℓ : Loc nD τ sig) → Buf (Elt Ideal) ℓ)

/-- The reference's result over the arguments. -/
abbrev REF (X : FVec Ideal S8192x2048 .bf16) (Wt : FVec Ideal S2048x4096 .bf16) : FVec Ideal S8192x4096 .bf16 :=
  truncf .bf16 (Host.dotGeneral (F := Ideal) (φ₁ := .f32) (φ₂ := .f32) Cert.Reference4Ideal.dot_S8192x2048_S2048x4096_S8192x4096_1_0_0_1_n_n none (extf .f32 X Cert.Reference4Ideal.Gen.bitsLt_bf16_f32) (extf .f32 Wt Cert.Reference4Ideal.Gen.bitsLt_bf16_f32)) Cert.Reference4Ideal.Gen.bitsLt_bf16_f32

/-- The windows' block indices. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The weights' block is the same at the points of one column of the result. -/
theorem weights_prev (c : Dev nD) (t u : Fin cfg0.N) (h : t.val / 8 = u.val / 8) : iblk m c 1 t = iblk m c 1 u := by
  funext x
  have e : win0_1.index t = win0_1.index u := by rw [(idx t).2.1, (idx u).2.1, h]
  blk_ext [iblk, V, e]

/-- The scratch holds the rounded weights' block of the point. -/
theorem scratch (c : Dev nD) (t : Fin cfg0.N) : (outsAt0 m c t.val t.isLt).2 = k0_pay1 (F := Ideal) (iblk m c 1 t) := by
  obtain ⟨n, hn⟩ := t
  induction n with
  | zero => rw [outsAt0_A m c ⟨0, hn⟩ (Nat.zero_mod _)]; frame_out
  | succ n ih =>
    by_cases h : (n + 1) % 8 = 0
    · rw [outsAt0_A m c ⟨n + 1, hn⟩ h]; frame_out
    · rw [outsAt0_B m c ⟨n + 1, hn⟩ h]
      have e := ih (Nat.lt_of_succ_lt hn)
      rw [weights_prev m c ⟨n, Nat.lt_of_succ_lt hn⟩ ⟨n + 1, hn⟩ (by show n / 8 = (n + 1) / 8; omega)] at e
      exact e

/-- What a point leaves in the result's block. -/
theorem block (c : Dev nD) (t : Fin cfg0.N) : (outsAt0 m c t.val t.isLt).1 = k0_pay2 (F := Ideal) (iblk m c 0 t) (k0_pay1 (F := Ideal) (iblk m c 1 t))  := by
  by_cases h : t.val % 8 = 0
  · rw [outsAt0_A m c t h]; frame_out
  · rw [← scratch m c t, outsAt0_B m c t h]; frame_out
    unfold sout0_B_0
    exact congrArg (fun s => k0_pay2 (F := Ideal) (iblk m c 0 t) s ) ((Memref.isWhole_whole cc0_scratch0).read_unread _)

/-- One element of the block is the reference's. -/
theorem point (c : Dev nD) (t : Fin cfg0.N) (y : S1024x1024.Idx) : k0_pay2 (F := Ideal) (iblk m c 0 t) (k0_pay1 (F := Ideal) (iblk m c 1 t))  y
    = REF (m ((c : Thread nD τ).loc main_arg0)) (m ((c : Thread nD τ).loc main_arg1)) (((cfg0.win 2).blk t).view.emb y) := by
  pointwise [k0_pay2, k0_pay1, REF]
  blk_point [iblk, V, idx t]

/-- The result array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2, block]
  exact point m c t y

end Cert.Kernel4Ideal.Value

end
-- ==== Proof.OutProjEven.lean ====
/- The even layer's output projection: its blocks are those of the residual plus the gated product. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen

variable (m : (ℓ : Loc nD τ sig) → Buf (Elt Ideal) ℓ)

/-- The reference's result over the arguments. -/
abbrev REF (X Y : FVec Ideal S8192x1024 .bf16) (Wt : FVec Ideal S2048x2048 .f32) (Z : FVec Ideal S8192x2048 .f32) (Gt : FVec Ideal S4x1x2048 .f32) : FVec Ideal S8192x2048 .f32 :=
  shapeCast _ (addf (shapeCast _ Z Cert.Reference5Ideal.Gen.shapeCasts_S8192x2048_S4x2048x2048) (mulf (broadcastInDim Cert.Reference5Ideal.S4x2048x2048 ![0, 1, 2] Cert.Reference5Ideal.Gen.bcast_S4x1x2048_S4x2048x2048_0_1_2 Gt) (shapeCast _ (Host.dotGeneral (F := Ideal) (φ₁ := .f32) (φ₂ := .f32) Cert.Reference5Ideal.dot_S8192x2048_S2048x2048_S8192x2048_1_0_0_1_n_n none (extf .f32 (concatenate S8192x2048 1 [⟨S8192x1024, X⟩, ⟨S8192x1024, Y⟩] Cert.Reference5Ideal.Gen.concatenates_S8192x1024_S8192x1024_S8192x2048_d1) Cert.Reference5Ideal.Gen.bitsLt_bf16_f32) Wt) Cert.Reference5Ideal.Gen.shapeCasts_S8192x2048_S4x2048x2048))) Cert.Reference5Ideal.Gen.shapeCasts_S4x2048x2048_S8192x2048

/-- The upper half of the weights' rows, which the first operand meets. -/
abbrev upper (s : Vec Ideal S2048x512 .bf16) : Vec Ideal S1024x512 .bf16 := fun y => s ((Rect.unit (s := S2048x512) ![0, 0] S1024x512.size inb_S2048x512_S1024x512_0_0).emb y)
/-- The lower half, which the second meets. -/
abbrev lower (s : Vec Ideal S2048x512 .bf16) : Vec Ideal S1024x512 .bf16 := fun y => s ((Rect.unit (s := S2048x512) ![1024, 0] S1024x512.size inb_S2048x512_S1024x512_1024_0).emb y)

/-- A load of rows of the scratch after it was stored whole reads the stored rows. -/
theorem loaded (v : View sig .tc .vmem S2048x512 .bf16) (w : Vec Ideal S2048x512 .bf16) (r : Rect S2048x512) :
    v.readCov (Val := Elt Ideal) [⟨Rect.unit (s := S2048x512) ![0, 0] S2048x512.size inb_S2048x512_S2048x512_0_0, w⟩] r.toLoadRect = fun y => w (r.emb y) := by
  rw [View.readCov_eq_canon']
  funext y
  have e : ∀ z : S2048x512.Idx, (Rect.unit (s := S2048x512) ![0, 0] S2048x512.size inb_S2048x512_S2048x512_0_0).emb z = z := fun z => by
    funext a; refine Fin.ext ?_; fin_cases a <;> simp [Rect.emb, Rect.unit]
  have h := View.canon_cons_emb (Val := Elt Ideal) (e := .bf16) (Rect.unit (s := S2048x512) ![0, 0] S2048x512.size inb_S2048x512_S2048x512_0_0) w [] (r.emb y)
  rw [e] at h
  exact h

/-- The windows' block indices. -/
theorem idx : ∀ t : Fin cfg0.N, win0_0.index t = ![t.val % 8, 0] ∧ win0_1.index t = ![t.val % 8, 0] ∧ win0_2.index t = ![0, t.val / 8] ∧ win0_3.index t = ![t.val % 8, t.val / 8] ∧ win0_4.index t = ![t.val % 8 / 2, 0, t.val / 8] ∧ win0_5.index t = ![t.val % 8, t.val / 8] :=
  (by decide +kernel : ∀ t : Fin grid0.N, _)

/-- The weights' block is the same at the points of one column of the result. -/
theorem weights_prev (c : Dev nD) (t u : Fin cfg0.N) (h : t.val / 8 = u.val / 8) : iblk m c 2 t = iblk m c 2 u := by
  funext x
  have e : win0_2.index t = win0_2.index u := by rw [(idx t).2.2.1, (idx u).2.2.1, h]
  blk_ext [iblk, V, e]

/-- The scratch holds the rounded weights' block of the point. -/
theorem scratch (c : Dev nD) (t : Fin cfg0.N) : (outsAt0 m c t.val t.isLt).2 = k0_pay1 (F := Ideal) (iblk m c 2 t) := by
  obtain ⟨n, hn⟩ := t
  induction n with
  | zero => rw [outsAt0_A m c ⟨0, hn⟩ (Nat.zero_mod _)]; frame_out
  | succ n ih =>
    by_cases h : (n + 1) % 8 = 0
    · rw [outsAt0_A m c ⟨n + 1, hn⟩ h]; frame_out
    · rw [outsAt0_B m c ⟨n + 1, hn⟩ h]
      have e := ih (Nat.lt_of_succ_lt hn)
      rw [weights_prev m c ⟨n, Nat.lt_of_succ_lt hn⟩ ⟨n + 1, hn⟩ (by show n / 8 = (n + 1) / 8; omega)] at e
      exact e

/-- What a point leaves in the result's block. -/
theorem block (c : Dev nD) (t : Fin cfg0.N) : (outsAt0 m c t.val t.isLt).1 = k0_pay2 (F := Ideal) (iblk m c 0 t) (upper (k0_pay1 (F := Ideal) (iblk m c 2 t))) (iblk m c 1 t) (lower (k0_pay1 (F := Ideal) (iblk m c 2 t))) (iblk m c 3 t) (iblk m c 4 t) := by
  by_cases h : t.val % 8 = 0
  · rw [outsAt0_A m c t h]; frame_out
    exact congrArg₂ (fun a b => k0_pay2 (F := Ideal) (iblk m c 0 t) a (iblk m c 1 t) b (iblk m c 3 t) (iblk m c 4 t)) (loaded _ _ _) (loaded _ _ _)
  · rw [← scratch m c t, outsAt0_B m c t h]; frame_out
    unfold sout0_B_0
    exact congrArg (fun s => k0_pay2 (F := Ideal) (iblk m c 0 t) (upper s) (iblk m c 1 t) (lower s) (iblk m c 3 t) (iblk m c 4 t)) ((Memref.isWhole_whole cc0_scratch0).read_unread _)

/-- One element of the block is the reference's. -/
theorem point (c : Dev nD) (t : Fin cfg0.N) (y : S1024x512.Idx) : k0_pay2 (F := Ideal) (iblk m c 0 t) (upper (k0_pay1 (F := Ideal) (iblk m c 2 t))) (iblk m c 1 t) (lower (k0_pay1 (F := Ideal) (iblk m c 2 t))) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  pointwise [k0_pay2, k0_pay1, REF]
  blk_point [iblk, V, idx t]

/-- The result array. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, block]
  exact point m c t y

end Cert.Kernel5Ideal.Value

end
-- ==== Proof.Setup.lean ====
/- The operands of the experts' body: the tables, the weights left where they are, the two slots and the bf16 weights. -/
module

public import proofs.«01_k».proof.Proof.Gen.Kernel.Launch
public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-! ## The tables -/

abbrev mTe : Memref sig .tc .smem S96 .i32 := Memref.whole main_arg0
abbrev mTf : Memref sig .tc .smem S96 .i32 := Memref.whole main_arg1
abbrev mTv : Memref sig .tc .smem S96 .i32 := Memref.whole main_arg2
abbrev mTi : Memref sig .tc .smem S96 .i32 := Memref.whole main_arg3
abbrev mNx : Memref sig .tc .smem S96 .i32 := Memref.whole main_arg4
abbrev mWs : Memref sig .tc .smem S96 .i32 := Memref.whole main_arg5

abbrev TabBuf (c : Dev nD) (M : Memref sig .tc .smem S96 .i32) : Type := Buf (Elt F) (M.view.loc (c : Thread nD τ))
/-- A table at the half of it the body is handed. -/
abbrev tab (c : Dev nD) (M : Memref sig .tc .smem S96 .i32) (f : TabBuf (F := F) c M) : sProp 𝕄 :=
  M.view.loc (c : Thread nD τ) ↦{fullShare.right} f

/-! ## The weights, the slots, the bf16 weights -/

abbrev mG : Memref sig .tc .hbm S2x32x2048x512 .f32 := Memref.whole main_arg7
abbrev mU : Memref sig .tc .hbm S2x32x2048x512 .f32 := Memref.whole main_arg8
abbrev mD : Memref sig .tc .hbm S2x32x512x2048 .f32 := Memref.whole main_arg9
abbrev sG : Memref sig .tc .vmem S2x2048x512 .f32 := Memref.whole cc0_scratch0
abbrev sU : Memref sig .tc .vmem S2x2048x512 .f32 := Memref.whole cc0_scratch1
abbrev sD : Memref sig .tc .vmem S2x512x2048 .f32 := Memref.whole cc0_scratch2
abbrev bG : Memref sig .tc .vmem S2048x512 .bf16 := Memref.whole cc0_scratch3
abbrev bU : Memref sig .tc .vmem S2048x512 .bf16 := Memref.whole cc0_scratch4
abbrev bD : Memref sig .tc .vmem S512x2048 .bf16 := Memref.whole cc0_scratch5

/-- A buffer on core `c` and it held whole. -/
abbrev MBuf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : MBuf (F := F) c M) : sProp 𝕄 :=
  M.view.loc (c : Thread nD τ) ↦{fullShare} f

/-- The body, on the whole operands and any staging memrefs. -/
abbrev bodyOn (i : grid0.Coords) (arg7 : Memref sig .tc .vmem S2048x128 .i32) (harg7 : arg7.IsWhole)
    (arg11 : Memref sig .tc .vmem S2048x128 .i32) (harg11 : arg11.IsWhole) : Prog (TpuEff nD τ sig (Elt F) Λ₀ .tc) PUnit :=
  cc0_moe_experts i mTe (Memref.isWhole_whole _) mTf (Memref.isWhole_whole _) mTv (Memref.isWhole_whole _) mTi (Memref.isWhole_whole _)
    mNx (Memref.isWhole_whole _) mWs (Memref.isWhole_whole _) arg7 harg7 mG (Memref.isWhole_whole _) mU (Memref.isWhole_whole _)
    mD (Memref.isWhole_whole _) arg11 harg11 sG (Memref.isWhole_whole _) sU (Memref.isWhole_whole _) sD (Memref.isWhole_whole _)
    bG (Memref.isWhole_whole _) bU (Memref.isWhole_whole _) bD (Memref.isWhole_whole _) cc0_scratch6

/-- The word of a table at an offset, as the body's read of it leaves it. -/
abbrev wordAt (c : Dev nD) (M : Memref sig .tc .smem S96 .i32) (f : TabBuf (F := F) c M) (off : Fin 1 → ℕ)
    (h : ∀ a, off a + S1.size a ≤ S96.size a) : BitVec 32 :=
  M.view.readAt (Elt F) (Rect.unit (s := S96) off S1.size h).toLoadRect f (Shape.Idx.first (s := S1) (by decide))

/-- One word of a table, at an offset: the element held, its contents one word. -/
abbrev cellAt (M : Memref sig .tc .smem S96 .i32) (off : Fin 1 → ℕ) (h : ∀ a, off a + S1.size a ≤ S96.size a) : Memref sig .tc .smem S1 .i32 :=
  M.slice (Rect.unit (s := S96) off S1.size h) (fun _ => rfl)
abbrev word (c : Dev nD) (M : Memref sig .tc .smem S96 .i32) (q : PosShare TreeShare) (off : Fin 1 → ℕ) (h : ∀ a, off a + S1.size a ≤ S96.size a) (w : M.view.ty.Contents (Elt F)) : sProp 𝕄 :=
  (cellAt M off h).view.loc (c : Thread nD τ) ↦[(cellAt M off h).view.set]{q} w

/-! ## One expert's weights, one slot -/

/-- A word that names an expert. -/
abbrev Exp : Type := { w : BitVec 32 // w.toNat < 32 }

theorem inbN (e : Exp) : ∀ a, k0_off8 e.1 a + S1x1x2048x512.size a ≤ S2x32x2048x512.size a := by
  have h := e.2
  intro a
  match a with
  | ⟨0, _⟩ => exact (by decide : 1 + 1 ≤ 2)
  | ⟨1, _⟩ => exact (by omega : e.1.toNat + 1 ≤ 32)
  | ⟨2, _⟩ => exact (by decide : 0 + 2048 ≤ 2048)
  | ⟨3, _⟩ => exact (by decide : 0 + 512 ≤ 512)
theorem inbT (e : Exp) : ∀ a, k0_off12 e.1 a + S1x1x512x2048.size a ≤ S2x32x512x2048.size a := by
  have h := e.2
  intro a
  match a with
  | ⟨0, _⟩ => exact (by decide : 1 + 1 ≤ 2)
  | ⟨1, _⟩ => exact (by omega : e.1.toNat + 1 ≤ 32)
  | ⟨2, _⟩ => exact (by decide : 0 + 512 ≤ 512)
  | ⟨3, _⟩ => exact (by decide : 0 + 2048 ≤ 2048)
theorem te0_inb : ∀ a, (![0] : Fin 1 → ℕ) a + S1.size a ≤ S96.size a := by decide

/-- Expert `e`'s matrix of the last layer, as the transfers name it. -/
abbrev srcN (M : Memref sig .tc .hbm S2x32x2048x512 .f32) (off : Fin 4 → ℕ) (h : ∀ a, off a + S1x1x2048x512.size a ≤ S2x32x2048x512.size a) :
    Memref sig .tc .hbm S2048x512 .f32 :=
  (M.slice (Rect.unit (s := S2x32x2048x512) off S1x1x2048x512.size h) (fun _ => rfl)).squeeze S2048x512 squeezes_S1x1x2048x512_S2048x512
abbrev srcT (M : Memref sig .tc .hbm S2x32x512x2048 .f32) (off : Fin 4 → ℕ) (h : ∀ a, off a + S1x1x512x2048.size a ≤ S2x32x512x2048.size a) :
    Memref sig .tc .hbm S512x2048 .f32 :=
  (M.slice (Rect.unit (s := S2x32x512x2048) off S1x1x512x2048.size h) (fun _ => rfl)).squeeze S512x2048 squeezes_S1x1x512x2048_S512x2048
/-- A slot. -/
abbrev slotN (M : Memref sig .tc .vmem S2x2048x512 .f32) (off : Fin 3 → ℕ) (h : ∀ a, off a + S1x2048x512.size a ≤ S2x2048x512.size a) :
    Memref sig .tc .vmem S2048x512 .f32 :=
  (M.slice (Rect.unit (s := S2x2048x512) off S1x2048x512.size h) (fun _ => rfl)).squeeze S2048x512 squeezes_S1x2048x512_S2048x512
abbrev slotT (M : Memref sig .tc .vmem S2x512x2048 .f32) (off : Fin 3 → ℕ) (h : ∀ a, off a + S1x512x2048.size a ≤ S2x512x2048.size a) :
    Memref sig .tc .vmem S512x2048 .f32 :=
  (M.slice (Rect.unit (s := S2x512x2048) off S1x512x2048.size h) (fun _ => rfl)).squeeze S512x2048 squeezes_S1x512x2048_S512x2048

theorem inbSlotN (s : Fin 2) : ∀ a, (![s.val, 0, 0] : Fin 3 → ℕ) a + S1x2048x512.size a ≤ S2x2048x512.size a := by
  revert s; decide
theorem inbSlotT (s : Fin 2) : ∀ a, (![s.val, 0, 0] : Fin 3 → ℕ) a + S1x512x2048.size a ≤ S2x512x2048.size a := by
  revert s; decide

/-- A view's own elements held at a share. -/
abbrev part (c : Dev nD) {sp : Space} {S : Shape} {e : EltTy} (M : Memref sig .tc sp S e) (q : PosShare TreeShare) (f : MBuf (F := F) c M) : sProp 𝕄 :=
  M.view.loc (c : Thread nD τ) ↦[M.view.set]{q} f

/-- A slot landed: the source read whole over what the slot held. -/
abbrev landed (c : Dev nD) {S : Shape} {e : EltTy} (src : Memref sig .tc .hbm S e) (dst : Memref sig .tc .vmem S e)
    (fs : MBuf (F := F) c src) (fd : MBuf (F := F) c dst) : MBuf (F := F) c dst :=
  dst.view.writes (Elt F) fd [⟨Rect.whole S, ReadAs.same.apply (src.view.read (Elt F) fs)⟩]

/-- What the three transfers of an expert's weights into slot `s` deliver, in issue order. -/
def deliv (c : Dev nD) (q : PosShare TreeShare) (s : Fin 2) (offN offT : Fin 4 → ℕ)
    (hN : ∀ a, offN a + S1x1x2048x512.size a ≤ S2x32x2048x512.size a) (hT : ∀ a, offT a + S1x1x512x2048.size a ≤ S2x32x512x2048.size a)
    (wg : MBuf (F := F) c mG) (wu : MBuf (F := F) c mU) (wd : MBuf (F := F) c mD)
    (fg : MBuf (F := F) c sG) (fu : MBuf (F := F) c sU) (fd : MBuf (F := F) c sD) : Fin 3 → sProp 𝕄
  | 0 => iprop(part c (slotN sG ![s.val, 0, 0] (inbSlotN s)) fullShare (landed c (srcN mG offN hN) (slotN sG ![s.val, 0, 0] (inbSlotN s)) wg fg)
      ∗ part c (srcN mG offN hN) q wg)
  | 1 => iprop(part c (slotN sU ![s.val, 0, 0] (inbSlotN s)) fullShare (landed c (srcN mU offN hN) (slotN sU ![s.val, 0, 0] (inbSlotN s)) wu fu)
      ∗ part c (srcN mU offN hN) q wu)
  | 2 => iprop(part c (slotT sD ![s.val, 0, 0] (inbSlotT s)) fullShare (landed c (srcT mD offT hT) (slotT sD ![s.val, 0, 0] (inbSlotT s)) wd fd)
      ∗ part c (srcT mD offT hT) q wd)

instance deliv_storable (c : Dev nD) (q : PosShare TreeShare) (s : Fin 2) (offN offT : Fin 4 → ℕ)
    (hN : ∀ a, offN a + S1x1x2048x512.size a ≤ S2x32x2048x512.size a) (hT : ∀ a, offT a + S1x1x512x2048.size a ≤ S2x32x512x2048.size a)
    (wg : MBuf (F := F) c mG) (wu : MBuf (F := F) c mU) (wd : MBuf (F := F) c mD)
    (fg : MBuf (F := F) c sG) (fu : MBuf (F := F) c sU) (fd : MBuf (F := F) c sD) (t : Fin 3) :
    Storable (upEmb : UEmb _ 𝕄) (deliv c q s offN offT hN hT wg wu wd fg fu fd t) := by
  fin_cases t <;> simp only [deliv] <;> infer_instance

/-- One transfer's units. -/
abbrev units : ℕ := (slotN sG ![0, 0, 0] (inbSlotN 0)).view.amount (SemLoc.dma (sig := sig) 4)
example : units = (slotT sD ![1, 0, 0] (inbSlotT 1)).view.amount (SemLoc.dma (sig := sig) 5) := by decide

end Cert.Experts

end
-- ==== Proof.Block.lean ====
module

public import proofs.«01_k».proof.Proof.Setup
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-! ## One block's result -/

/-- Two values as the bf16 halves of a word, the first low. -/
def pk (a b : F .f32) : BitVec 32 :=
  BitOps.toBits (FloatOps.truncf .bf16 (by decide) b) ++ BitOps.toBits (FloatOps.truncf .bf16 (by decide) a)

/-- The words of a block at sublane `b` of every row tile. -/
def xrow (x : Vec F S2048x128 .i32) (b : ℕ) (h : ∀ a, S256x128.size a = 0 ∨ (![b, 0] : Fin 2 → ℕ) a + (![8, 1] : Fin 2 → ℕ) a * (S256x128.size a - 1) < S2048x128.size a) :
    Vec F S256x128 .i32 :=
  fun p => x ((⟨![b, 0], S256x128.size, ![8, 1], h⟩ : LoadRect S2048x128).idx p)

/-- The hidden activations of a block: the bf16 rows against both matrices, gated. -/
def hid (x : Vec F S2048x128 .i32) (G U : Vec F S2048x512 .bf16) : FVec F S256x512 .bf16 :=
  k0_pay15 (xrow x 0 inb_S2048x128_S256x128_0_0_s_8_1) (xrow x 1 inb_S2048x128_S256x128_1_0_s_8_1) (xrow x 2 inb_S2048x128_S256x128_2_0_s_8_1) (xrow x 3 inb_S2048x128_S256x128_3_0_s_8_1) (xrow x 4 inb_S2048x128_S256x128_4_0_s_8_1) (xrow x 5 inb_S2048x128_S256x128_5_0_s_8_1) (xrow x 6 inb_S2048x128_S256x128_6_0_s_8_1) (xrow x 7 inb_S2048x128_S256x128_7_0_s_8_1) G U

/-- The block's rows after the last product. -/
def yv (x : Vec F S2048x128 .i32) (G U : Vec F S2048x512 .bf16) (D : Vec F S512x2048 .bf16) : FVec F S256x2048 .f32 :=
  k0_pay4 (hid x G U) D (constant S256x2048 .f32 0x00000000#32)

theorem col_lt {r c : ℕ} (hr : r < 256) (hc : c < 2048) : ∀ a : Fin 2, (![r, c] : Fin 2 → ℕ) a < S256x2048.size a := by
  intro a
  match a with
  | ⟨0, _⟩ => exact hr
  | ⟨1, _⟩ => exact hc
def cix (r c : ℕ) (hr : r < 256) (hc : c < 2048) : S256x2048.Idx := fun a => ⟨(![r, c] : Fin 2 → ℕ) a, col_lt hr hc a⟩

theorem row_lt (y : S2048x128.Idx) : (y 0).val / 8 < 256 := by have h : (y 0).val < 2048 := (y 0).isLt; omega
theorem lo_lt (y : S2048x128.Idx) : 128 * ((y 0).val % 8) + (y 1).val < 2048 := by have h : (y 1).val < 128 := (y 1).isLt; omega
theorem hi_lt (y : S2048x128.Idx) : 1024 + (128 * ((y 0).val % 8) + (y 1).val) < 2048 := by have h : (y 1).val < 128 := (y 1).isLt; omega

/-- The block's words. -/
def outBlk (x : Vec F S2048x128 .i32) (G U : Vec F S2048x512 .bf16) (D : Vec F S512x2048 .bf16) : Vec F S2048x128 .i32 :=
  fun y => pk (yv x G U D (cix _ _ (row_lt y) (lo_lt y))) (yv x G U D (cix _ _ (row_lt y) (hi_lt y)))

/-- The eight stores of a block's result, last first. -/
abbrev outL (x : Vec F S2048x128 .i32) (G U : Vec F S2048x512 .bf16) (D : Vec F S512x2048 .bf16) : List (View.Piece (Elt F) S2048x128 .i32) :=
  [⟨{ off := ![7, 0], size := S256x128.size, stride := ![8, 1], inb := inb_S2048x128_S256x128_7_0_s_8_1, stride_pos := spos_8_1 }, k0_pay12 (hid x G U) D (constant S256x2048 .f32 0x00000000#32)⟩,
   ⟨{ off := ![6, 0], size := S256x128.size, stride := ![8, 1], inb := inb_S2048x128_S256x128_6_0_s_8_1, stride_pos := spos_8_1 }, k0_pay11 (hid x G U) D (constant S256x2048 .f32 0x00000000#32)⟩,
   ⟨{ off := ![5, 0], size := S256x128.size, stride := ![8, 1], inb := inb_S2048x128_S256x128_5_0_s_8_1, stride_pos := spos_8_1 }, k0_pay10 (hid x G U) D (constant S256x2048 .f32 0x00000000#32)⟩,
   ⟨{ off := ![4, 0], size := S256x128.size, stride := ![8, 1], inb := inb_S2048x128_S256x128_4_0_s_8_1, stride_pos := spos_8_1 }, k0_pay9 (hid x G U) D (constant S256x2048 .f32 0x00000000#32)⟩,
   ⟨{ off := ![3, 0], size := S256x128.size, stride := ![8, 1], inb := inb_S2048x128_S256x128_3_0_s_8_1, stride_pos := spos_8_1 }, k0_pay8 (hid x G U) D (constant S256x2048 .f32 0x00000000#32)⟩,
   ⟨{ off := ![2, 0], size := S256x128.size, stride := ![8, 1], inb := inb_S2048x128_S256x128_2_0_s_8_1, stride_pos := spos_8_1 }, k0_pay7 (hid x G U) D (constant S256x2048 .f32 0x00000000#32)⟩,
   ⟨{ off := ![1, 0], size := S256x128.size, stride := ![8, 1], inb := inb_S2048x128_S256x128_1_0_s_8_1, stride_pos := spos_8_1 }, k0_pay6 (hid x G U) D (constant S256x2048 .f32 0x00000000#32)⟩,
   ⟨{ off := ![0, 0], size := S256x128.size, stride := ![8, 1], inb := inb_S2048x128_S256x128_0_0_s_8_1, stride_pos := spos_8_1 }, k0_pay5 (hid x G U) D (constant S256x2048 .f32 0x00000000#32)⟩]

theorem piece_eq (x : Vec F S2048x128 .i32) (G U : Vec F S2048x512 .bf16) (D : Vec F S512x2048 .bf16) (b o o' : ℕ) (z : S256x128.Idx) (y : S2048x128.Idx)
    (e0 : (y 0).val = b + 8 * (z 0).val) (e1 : (y 1).val = 0 + 1 * (z 1).val) (hb : b < 8) (ho : o = 128 * b) (ho' : o' = 1024 + 128 * b)
    (s : S256x2048.Slices ![0, o] S256x128) (s' : S256x2048.Slices ![0, o'] S256x128) :
    packElementwise (extractStridedSlice S256x128 ![0, o] (yv x G U D) s) (extractStridedSlice S256x128 ![0, o'] (yv x G U D) s') z = outBlk x G U D y := by
  have hd : (y 0).val / 8 = (z 0).val := by omega
  have hm : (y 0).val % 8 = b := by omega
  show pk (yv x G U D _) (yv x G U D _) = pk (yv x G U D _) (yv x G U D _)
  congr 2
  · funext a
    match a with
    | ⟨0, _⟩ => exact Fin.ext (by show 0 + (z 0).val = (y 0).val / 8; omega)
    | ⟨1, _⟩ => exact Fin.ext (by show o + (z 1).val = 128 * ((y 0).val % 8) + (y 1).val; omega)
  · funext a
    match a with
    | ⟨0, _⟩ => exact Fin.ext (by show 0 + (z 0).val = (y 0).val / 8; omega)
    | ⟨1, _⟩ => exact Fin.ext (by show o' + (z 1).val = 1024 + (128 * ((y 0).val % 8) + (y 1).val); omega)

theorem outL_agree (x : Vec F S2048x128 .i32) (G U : Vec F S2048x512 .bf16) (D : Vec F S512x2048 .bf16) :
    ∀ p ∈ outL x G U D, ∀ z : p.1.shape.Idx, p.2 z = outBlk x G U D (p.1.emb z) := by
  intro p hp
  simp only [outL, List.mem_cons, List.not_mem_nil, or_false] at hp
  rcases hp with rfl | rfl | rfl | rfl | rfl | rfl | rfl | rfl
  · intro z
    have e0 : (((⟨⟨![7, 0], S256x128.size, ![8, 1], inb_S2048x128_S256x128_7_0_s_8_1⟩, spos_8_1⟩ : Rect S2048x128).emb z) 0).val = 7 + 8 * (z 0).val := rfl
    have e1 : (((⟨⟨![7, 0], S256x128.size, ![8, 1], inb_S2048x128_S256x128_7_0_s_8_1⟩, spos_8_1⟩ : Rect S2048x128).emb z) 1).val = 0 + 1 * (z 1).val := rfl
    exact piece_eq x G U D 7 896 1920 z _ e0 e1 (by decide) rfl rfl _ _
  · intro z
    have e0 : (((⟨⟨![6, 0], S256x128.size, ![8, 1], inb_S2048x128_S256x128_6_0_s_8_1⟩, spos_8_1⟩ : Rect S2048x128).emb z) 0).val = 6 + 8 * (z 0).val := rfl
    have e1 : (((⟨⟨![6, 0], S256x128.size, ![8, 1], inb_S2048x128_S256x128_6_0_s_8_1⟩, spos_8_1⟩ : Rect S2048x128).emb z) 1).val = 0 + 1 * (z 1).val := rfl
    exact piece_eq x G U D 6 768 1792 z _ e0 e1 (by decide) rfl rfl _ _
  · intro z
    have e0 : (((⟨⟨![5, 0], S256x128.size, ![8, 1], inb_S2048x128_S256x128_5_0_s_8_1⟩, spos_8_1⟩ : Rect S2048x128).emb z) 0).val = 5 + 8 * (z 0).val := rfl
    have e1 : (((⟨⟨![5, 0], S256x128.size, ![8, 1], inb_S2048x128_S256x128_5_0_s_8_1⟩, spos_8_1⟩ : Rect S2048x128).emb z) 1).val = 0 + 1 * (z 1).val := rfl
    exact piece_eq x G U D 5 640 1664 z _ e0 e1 (by decide) rfl rfl _ _
  · intro z
    have e0 : (((⟨⟨![4, 0], S256x128.size, ![8, 1], inb_S2048x128_S256x128_4_0_s_8_1⟩, spos_8_1⟩ : Rect S2048x128).emb z) 0).val = 4 + 8 * (z 0).val := rfl
    have e1 : (((⟨⟨![4, 0], S256x128.size, ![8, 1], inb_S2048x128_S256x128_4_0_s_8_1⟩, spos_8_1⟩ : Rect S2048x128).emb z) 1).val = 0 + 1 * (z 1).val := rfl
    exact piece_eq x G U D 4 512 1536 z _ e0 e1 (by decide) rfl rfl _ _
  · intro z
    have e0 : (((⟨⟨![3, 0], S256x128.size, ![8, 1], inb_S2048x128_S256x128_3_0_s_8_1⟩, spos_8_1⟩ : Rect S2048x128).emb z) 0).val = 3 + 8 * (z 0).val := rfl
    have e1 : (((⟨⟨![3, 0], S256x128.size, ![8, 1], inb_S2048x128_S256x128_3_0_s_8_1⟩, spos_8_1⟩ : Rect S2048x128).emb z) 1).val = 0 + 1 * (z 1).val := rfl
    exact piece_eq x G U D 3 384 1408 z _ e0 e1 (by decide) rfl rfl _ _
  · intro z
    have e0 : (((⟨⟨![2, 0], S256x128.size, ![8, 1], inb_S2048x128_S256x128_2_0_s_8_1⟩, spos_8_1⟩ : Rect S2048x128).emb z) 0).val = 2 + 8 * (z 0).val := rfl
    have e1 : (((⟨⟨![2, 0], S256x128.size, ![8, 1], inb_S2048x128_S256x128_2_0_s_8_1⟩, spos_8_1⟩ : Rect S2048x128).emb z) 1).val = 0 + 1 * (z 1).val := rfl
    exact piece_eq x G U D 2 256 1280 z _ e0 e1 (by decide) rfl rfl _ _
  · intro z
    have e0 : (((⟨⟨![1, 0], S256x128.size, ![8, 1], inb_S2048x128_S256x128_1_0_s_8_1⟩, spos_8_1⟩ : Rect S2048x128).emb z) 0).val = 1 + 8 * (z 0).val := rfl
    have e1 : (((⟨⟨![1, 0], S256x128.size, ![8, 1], inb_S2048x128_S256x128_1_0_s_8_1⟩, spos_8_1⟩ : Rect S2048x128).emb z) 1).val = 0 + 1 * (z 1).val := rfl
    exact piece_eq x G U D 1 128 1152 z _ e0 e1 (by decide) rfl rfl _ _
  · intro z
    have e0 : (((⟨⟨![0, 0], S256x128.size, ![8, 1], inb_S2048x128_S256x128_0_0_s_8_1⟩, spos_8_1⟩ : Rect S2048x128).emb z) 0).val = 0 + 8 * (z 0).val := rfl
    have e1 : (((⟨⟨![0, 0], S256x128.size, ![8, 1], inb_S2048x128_S256x128_0_0_s_8_1⟩, spos_8_1⟩ : Rect S2048x128).emb z) 1).val = 0 + 1 * (z 1).val := rfl
    exact piece_eq x G U D 0 0 1024 z _ e0 e1 (by decide) rfl rfl _ _

theorem outL_cover (x : Vec F S2048x128 .i32) (G U : Vec F S2048x512 .bf16) (D : Vec F S512x2048 .bf16) (y : S2048x128.Idx) :
    ∃ p ∈ outL x G U D, y ∈ p.1.set := by
  have h0 : (y 0).val < 2048 := (y 0).isLt
  have h1 : (y 1).val < 128 := (y 1).isLt
  have hb : (y 0).val % 8 < 8 := Nat.mod_lt _ (by decide)
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), (LoadRect.mem_set _).mpr fun a => ?_⟩
    match a with
    | ⟨0, _⟩ => exact ⟨(y 0).val / 8, by show _ < 256; omega, by show (y 0).val = 0 + 8 * _; omega⟩
    | ⟨1, _⟩ => exact ⟨(y 1).val, h1, by show (y 1).val = 0 + 1 * _; omega⟩
  · refine ⟨_, (List.mem_cons_of_mem _ (List.mem_cons_of_mem _ (List.mem_cons_of_mem _ (List.mem_cons_of_mem _ (List.mem_cons_of_mem _ (List.mem_cons_of_mem _ (List.mem_cons_self))))))), (LoadRect.mem_set _).mpr fun a => ?_⟩
    match a with
    | ⟨0, _⟩ => exact ⟨(y 0).val / 8, by show _ < 256; omega, by show (y 0).val = 1 + 8 * _; omega⟩
    | ⟨1, _⟩ => exact ⟨(y 1).val, h1, by show (y 1).val = 0 + 1 * _; omega⟩
  · refine ⟨_, (List.mem_cons_of_mem _ (List.mem_cons_of_mem _ (List.mem_cons_of_mem _ (List.mem_cons_of_mem _ (List.mem_cons_of_mem _ (List.mem_cons_self)))))), (LoadRect.mem_set _).mpr fun a => ?_⟩
    match a with
    | ⟨0, _⟩ => exact ⟨(y 0).val / 8, by show _ < 256; omega, by show (y 0).val = 2 + 8 * _; omega⟩
    | ⟨1, _⟩ => exact ⟨(y 1).val, h1, by show (y 1).val = 0 + 1 * _; omega⟩
  · refine ⟨_, (List.mem_cons_of_mem _ (List.mem_cons_of_mem _ (List.mem_cons_of_mem _ (List.mem_cons_of_mem _ (List.mem_cons_self))))), (LoadRect.mem_set _).mpr fun a => ?_⟩
    match a with
    | ⟨0, _⟩ => exact ⟨(y 0).val / 8, by show _ < 256; omega, by show (y 0).val = 3 + 8 * _; omega⟩
    | ⟨1, _⟩ => exact ⟨(y 1).val, h1, by show (y 1).val = 0 + 1 * _; omega⟩
  · refine ⟨_, (List.mem_cons_of_mem _ (List.mem_cons_of_mem _ (List.mem_cons_of_mem _ (List.mem_cons_self)))), (LoadRect.mem_set _).mpr fun a => ?_⟩
    match a with
    | ⟨0, _⟩ => exact ⟨(y 0).val / 8, by show _ < 256; omega, by show (y 0).val = 4 + 8 * _; omega⟩
    | ⟨1, _⟩ => exact ⟨(y 1).val, h1, by show (y 1).val = 0 + 1 * _; omega⟩
  · refine ⟨_, (List.mem_cons_of_mem _ (List.mem_cons_of_mem _ (List.mem_cons_self))), (LoadRect.mem_set _).mpr fun a => ?_⟩
    match a with
    | ⟨0, _⟩ => exact ⟨(y 0).val / 8, by show _ < 256; omega, by show (y 0).val = 5 + 8 * _; omega⟩
    | ⟨1, _⟩ => exact ⟨(y 1).val, h1, by show (y 1).val = 0 + 1 * _; omega⟩
  · refine ⟨_, (List.mem_cons_of_mem _ (List.mem_cons_self)), (LoadRect.mem_set _).mpr fun a => ?_⟩
    match a with
    | ⟨0, _⟩ => exact ⟨(y 0).val / 8, by show _ < 256; omega, by show (y 0).val = 6 + 8 * _; omega⟩
    | ⟨1, _⟩ => exact ⟨(y 1).val, h1, by show (y 1).val = 0 + 1 * _; omega⟩
  · refine ⟨_, (List.mem_cons_self), (LoadRect.mem_set _).mpr fun a => ?_⟩
    match a with
    | ⟨0, _⟩ => exact ⟨(y 0).val / 8, by show _ < 256; omega, by show (y 0).val = 7 + 8 * _; omega⟩
    | ⟨1, _⟩ => exact ⟨(y 1).val, h1, by show (y 1).val = 0 + 1 * _; omega⟩

/-- Whatever the buffer held, it reads the block's words after the eight stores. -/
theorem read_outL (v : View sig .tc .vmem S2048x128 .i32) (f : v.ty.Contents (Elt F)) (x : Vec F S2048x128 .i32) (G U : Vec F S2048x512 .bf16) (D : Vec F S512x2048 .bf16) :
    v.read (Elt F) (v.writes (Elt F) f (outL x G U D)) = outBlk x G U D :=
  funext fun y => View.read_writes_apply_of_pieces v f (outBlk x G U D) (outL x G U D) (outL_agree x G U D) y (outL_cover x G U D y)

/-! ## The weights cast to bf16 -/

def cvN (w : FVec F S2048x512 .f32) : FVec F S2048x512 .bf16 := truncf .bf16 w bitsLt_bf16_f32
def cvT (w : FVec F S512x2048 .f32) : FVec F S512x2048 .bf16 := truncf .bf16 w bitsLt_bf16_f32

theorem cvG_slot (off : Fin 3 → ℕ) (h : ∀ a, off a + S1x2048x512.size a ≤ S2x2048x512.size a) (off' : Fin 3 → ℕ) (h' : ∀ a, off' a + S1x2048x512.size a ≤ S2x2048x512.size a)
    (e : off' = off) (f : sG.view.ty.Contents (Elt F)) (w : Vec F S2048x512 .f32) :
    k0_pay1 (k0_pay14 (sG.view.readAt (Elt F) (Rect.unit (s := S2x2048x512) off' S1x2048x512.size h').toLoadRect
      ((slotN sG off h).view.writes (Elt F) f [⟨Rect.whole S2048x512, w⟩]))) = cvN w := by
  subst e
  have hr : shapeCast S2048x512 (sG.view.readAt (Elt F) (Rect.unit (s := S2x2048x512) off' S1x2048x512.size h').toLoadRect
      ((slotN sG off' h).view.writes (Elt F) f [⟨Rect.whole S2048x512, w⟩])) shapeCasts_S1x2048x512_S2048x512
      = (slotN sG off' h).view.read (Elt F) ((slotN sG off' h).view.writes (Elt F) f [⟨Rect.whole S2048x512, w⟩]) := rfl
  rw [View.read_writes_whole] at hr
  exact (shapeCast_self _ _).trans (congrArg cvN hr)

theorem cvU_slot (off : Fin 3 → ℕ) (h : ∀ a, off a + S1x2048x512.size a ≤ S2x2048x512.size a) (off' : Fin 3 → ℕ) (h' : ∀ a, off' a + S1x2048x512.size a ≤ S2x2048x512.size a)
    (e : off' = off) (f : sU.view.ty.Contents (Elt F)) (w : Vec F S2048x512 .f32) :
    k0_pay2 (sU.view.readAt (Elt F) (Rect.unit (s := S2x2048x512) off' S1x2048x512.size h').toLoadRect
      ((slotN sU off h).view.writes (Elt F) f [⟨Rect.whole S2048x512, w⟩])) = cvN w := by
  subst e
  have hr : shapeCast S2048x512 (sU.view.readAt (Elt F) (Rect.unit (s := S2x2048x512) off' S1x2048x512.size h').toLoadRect
      ((slotN sU off' h).view.writes (Elt F) f [⟨Rect.whole S2048x512, w⟩])) shapeCasts_S1x2048x512_S2048x512
      = (slotN sU off' h).view.read (Elt F) ((slotN sU off' h).view.writes (Elt F) f [⟨Rect.whole S2048x512, w⟩]) := rfl
  rw [View.read_writes_whole] at hr
  exact (shapeCast_self _ _).trans (congrArg cvN hr)

theorem cvD_slot (off : Fin 3 → ℕ) (h : ∀ a, off a + S1x512x2048.size a ≤ S2x512x2048.size a) (off' : Fin 3 → ℕ) (h' : ∀ a, off' a + S1x512x2048.size a ≤ S2x512x2048.size a)
    (e : off' = off) (f : sD.view.ty.Contents (Elt F)) (w : Vec F S512x2048 .f32) :
    k0_pay3 (sD.view.readAt (Elt F) (Rect.unit (s := S2x512x2048) off' S1x512x2048.size h').toLoadRect
      ((slotT sD off h).view.writes (Elt F) f [⟨Rect.whole S512x2048, w⟩])) = cvT w := by
  subst e
  have hr : shapeCast S512x2048 (sD.view.readAt (Elt F) (Rect.unit (s := S2x512x2048) off' S1x512x2048.size h').toLoadRect
      ((slotT sD off' h).view.writes (Elt F) f [⟨Rect.whole S512x2048, w⟩])) shapeCasts_S1x512x2048_S512x2048
      = (slotT sD off' h).view.read (Elt F) ((slotT sD off' h).view.writes (Elt F) f [⟨Rect.whole S512x2048, w⟩]) := rfl
  rw [View.read_writes_whole] at hr
  exact (shapeCast_self _ _).trans (congrArg cvT hr)

end Cert.Experts

end
-- ==== Proof.Slots.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-! ## The two slots, disjoint and covering the scratch -/

abbrev setN (j : Fin 2) : Finset S2x2048x512.Idx := (Rect.unit (s := S2x2048x512) ![j.val, 0, 0] S1x2048x512.size (inbSlotN j)).set
abbrev setT (j : Fin 2) : Finset S2x512x2048.Idx := (Rect.unit (s := S2x512x2048) ![j.val, 0, 0] S1x512x2048.size (inbSlotT j)).set
theorem setN_disjoint (j j' : Fin 2) (hj : j ≠ j') : Disjoint (setN j) (setN j') :=
  Ring.lead_disjoint (s := S2x2048x512) (0 : Fin 3) 1 (fun j : Fin 2 => (![j.val, 0, 0] : Fin 3 → Nat)) S1x2048x512.size inbSlotN (fun j => by simp) rfl j j' hj
theorem setT_disjoint (j j' : Fin 2) (hj : j ≠ j') : Disjoint (setT j) (setT j') :=
  Ring.lead_disjoint (s := S2x512x2048) (0 : Fin 3) 1 (fun j : Fin 2 => (![j.val, 0, 0] : Fin 3 → Nat)) S1x512x2048.size inbSlotT (fun j => by simp) rfl j j' hj
theorem setN_cover : Finset.univ.biUnion setN = Finset.univ :=
  Ring.lead_cover (s := S2x2048x512) (0 : Fin 3) 1 (fun j : Fin 2 => (![j.val, 0, 0] : Fin 3 → Nat)) S1x2048x512.size inbSlotN (fun j => by simp)
    (fun j a ha => by fin_cases a <;> first | exact absurd rfl ha | rfl) rfl (fun a ha => by fin_cases a <;> first | exact absurd rfl ha | rfl) rfl
theorem setT_cover : Finset.univ.biUnion setT = Finset.univ :=
  Ring.lead_cover (s := S2x512x2048) (0 : Fin 3) 1 (fun j : Fin 2 => (![j.val, 0, 0] : Fin 3 → Nat)) S1x512x2048.size inbSlotT (fun j => by simp)
    (fun j a ha => by fin_cases a <;> first | exact absurd rfl ha | rfl) rfl (fun a ha => by fin_cases a <;> first | exact absurd rfl ha | rfl) rfl

theorem slotG_set (j : Fin 2) : (slotN sG ![j.val, 0, 0] (inbSlotN j)).view.set = setN j := by
  simp only [slotN, Memref.view_squeeze, View.set_reshape]; exact View.set_slice_whole _ _
theorem slotU_set (j : Fin 2) : (slotN sU ![j.val, 0, 0] (inbSlotN j)).view.set = setN j := by
  simp only [slotN, Memref.view_squeeze, View.set_reshape]; exact View.set_slice_whole _ _
theorem slotD_set (j : Fin 2) : (slotT sD ![j.val, 0, 0] (inbSlotT j)).view.set = setT j := by
  simp only [slotT, Memref.view_squeeze, View.set_reshape]; exact View.set_slice_whole _ _

/-- Slot `j` of each scratch at anything. -/
abbrev anyG (c : Dev nD) (j : Fin 2) : sProp 𝕄 := iprop(∃ f, part (F := F) c (slotN sG ![j.val, 0, 0] (inbSlotN j)) fullShare f)
abbrev anyU (c : Dev nD) (j : Fin 2) : sProp 𝕄 := iprop(∃ f, part (F := F) c (slotN sU ![j.val, 0, 0] (inbSlotN j)) fullShare f)
abbrev anyD (c : Dev nD) (j : Fin 2) : sProp 𝕄 := iprop(∃ f, part (F := F) c (slotT sD ![j.val, 0, 0] (inbSlotT j)) fullShare f)

theorem slotsG_in (c : Dev nD) : iprop(∃ f : MBuf (F := F) c sG, held c sG f) ⊢ (iprop(anyG (F := F) c 0 ∗ anyG c 1) : sProp 𝕄) :=
  Ring.slots2_split (U := Pipeline.UD sig nD τ) (ℓ := sG.view.loc (c : Thread nD τ)) (q := fullShare) setN setN_disjoint setN_cover
    (fun f => part c (slotN sG ![(0 : Fin 2).val, 0, 0] (inbSlotN 0)) fullShare f) (fun f => part c (slotN sG ![(1 : Fin 2).val, 0, 0] (inbSlotN 1)) fullShare f)
    (fun f => by unfold part; rw [slotG_set]) (fun f => by unfold part; rw [slotG_set])
theorem slotsG_out (c : Dev nD) : (iprop(anyG (F := F) c 0 ∗ anyG c 1) : sProp 𝕄) ⊢ iprop(∃ f : MBuf (F := F) c sG, held c sG f) :=
  Ring.slots2_join (U := Pipeline.UD sig nD τ) (ℓ := sG.view.loc (c : Thread nD τ)) (q := fullShare) setN setN_disjoint setN_cover
    (fun f => part c (slotN sG ![(0 : Fin 2).val, 0, 0] (inbSlotN 0)) fullShare f) (fun f => part c (slotN sG ![(1 : Fin 2).val, 0, 0] (inbSlotN 1)) fullShare f)
    (fun f => by unfold part; rw [slotG_set]) (fun f => by unfold part; rw [slotG_set])
theorem slotsU_in (c : Dev nD) : iprop(∃ f : MBuf (F := F) c sU, held c sU f) ⊢ (iprop(anyU (F := F) c 0 ∗ anyU c 1) : sProp 𝕄) :=
  Ring.slots2_split (U := Pipeline.UD sig nD τ) (ℓ := sU.view.loc (c : Thread nD τ)) (q := fullShare) setN setN_disjoint setN_cover
    (fun f => part c (slotN sU ![(0 : Fin 2).val, 0, 0] (inbSlotN 0)) fullShare f) (fun f => part c (slotN sU ![(1 : Fin 2).val, 0, 0] (inbSlotN 1)) fullShare f)
    (fun f => by unfold part; rw [slotU_set]) (fun f => by unfold part; rw [slotU_set])
theorem slotsU_out (c : Dev nD) : (iprop(anyU (F := F) c 0 ∗ anyU c 1) : sProp 𝕄) ⊢ iprop(∃ f : MBuf (F := F) c sU, held c sU f) :=
  Ring.slots2_join (U := Pipeline.UD sig nD τ) (ℓ := sU.view.loc (c : Thread nD τ)) (q := fullShare) setN setN_disjoint setN_cover
    (fun f => part c (slotN sU ![(0 : Fin 2).val, 0, 0] (inbSlotN 0)) fullShare f) (fun f => part c (slotN sU ![(1 : Fin 2).val, 0, 0] (inbSlotN 1)) fullShare f)
    (fun f => by unfold part; rw [slotU_set]) (fun f => by unfold part; rw [slotU_set])
theorem slotsD_in (c : Dev nD) : iprop(∃ f : MBuf (F := F) c sD, held c sD f) ⊢ (iprop(anyD (F := F) c 0 ∗ anyD c 1) : sProp 𝕄) :=
  Ring.slots2_split (U := Pipeline.UD sig nD τ) (ℓ := sD.view.loc (c : Thread nD τ)) (q := fullShare) setT setT_disjoint setT_cover
    (fun f => part c (slotT sD ![(0 : Fin 2).val, 0, 0] (inbSlotT 0)) fullShare f) (fun f => part c (slotT sD ![(1 : Fin 2).val, 0, 0] (inbSlotT 1)) fullShare f)
    (fun f => by unfold part; rw [slotD_set]) (fun f => by unfold part; rw [slotD_set])
theorem slotsD_out (c : Dev nD) : (iprop(anyD (F := F) c 0 ∗ anyD c 1) : sProp 𝕄) ⊢ iprop(∃ f : MBuf (F := F) c sD, held c sD f) :=
  Ring.slots2_join (U := Pipeline.UD sig nD τ) (ℓ := sD.view.loc (c : Thread nD τ)) (q := fullShare) setT setT_disjoint setT_cover
    (fun f => part c (slotT sD ![(0 : Fin 2).val, 0, 0] (inbSlotT 0)) fullShare f) (fun f => part c (slotT sD ![(1 : Fin 2).val, 0, 0] (inbSlotT 1)) fullShare f)
    (fun f => by unfold part; rw [slotD_set]) (fun f => by unfold part; rw [slotD_set])

/-! ## A word of a table, lent -/

/-- The index of word `j` of a table. -/
abbrev ix (j : ℕ) : S96.Idx
  | ⟨0, _⟩ => (⟨j % 96, Nat.mod_lt _ (by decide)⟩ : Fin 96)
  | ⟨_ + 1, h⟩ => absurd h (Nat.not_lt.2 (Nat.le_add_left _ _))

theorem lend (c : Dev nD) (b : Ref sig .tc) (r : Rect b.ty.shape) (q : PosShare TreeShare) (f : Buf (Elt F) ((c : Thread nD τ).loc b)) (g : Buf (Elt F) ((c : Thread nD τ).loc b))
    (hg : ∀ i ∈ r.set, f i = g i) :
    ((c : Thread nD τ).loc b ↦{q} f : sProp 𝕄) ⊣⊢ iprop(((c : Thread nD τ).loc b ↦[r.set]{q} g) ∗ ((c : Thread nD τ).loc b ↦[Finset.univ \ r.set]{q} f)) := by
  rw [show ((c : Thread nD τ).loc b ↦[r.set]{q} g : sProp 𝕄) = ((c : Thread nD τ).loc b ↦[r.set]{q} f) from (pointsTo_congr hg).symm]
  exact pointsTo_split_subset (Finset.subset_univ _)

theorem off_eq (f : S96.Idx → BitVec 32) (off : Fin 1 → ℕ) (h : ∀ a, off a + S1.size a ≤ S96.size a) (j : ℕ) (hj : off = ![j]) :
    ∀ i ∈ (Rect.unit (s := S96) off S1.size h).set, f i = f (ix j) := by
  intro i hi
  have h0 := (Rect.mem_set_unit.mp hi) 0
  congr 1
  funext a
  obtain rfl : a = 0 := Subsingleton.elim _ _
  subst hj
  have h1 : j ≤ (i 0).val ∧ (i 0).val < j + 1 := h0
  have h2 : (i 0).val < 96 := (i 0).isLt
  exact Fin.ext (show (i 0).val = j % 96 by rw [Nat.mod_eq_of_lt (by omega)]; omega)

/-- Shares of the weights: the left half for the transfers into slot 0, the right one for those into slot 1. -/
def qs : Fin 2 → PosShare TreeShare
  | 0 => fullShare.left
  | 1 => fullShare.right
/-- The cells the two slots' transfers signal. -/
def cell : Fin 2 → SemLoc sig
  | 0 => SemLoc.dma 4
  | 1 => SemLoc.dma 5

/-- What is left of the weights while expert `e`'s are lent. -/
abbrev offG (c : Dev nD) (q : PosShare TreeShare) (e : Exp) (wg : MBuf (F := F) c mG) : sProp 𝕄 :=
  mG.view.loc (c : Thread nD τ) ↦[Finset.univ \ (srcN mG _ (inbN e)).view.set]{q} wg
abbrev offU (c : Dev nD) (q : PosShare TreeShare) (e : Exp) (wu : MBuf (F := F) c mU) : sProp 𝕄 :=
  mU.view.loc (c : Thread nD τ) ↦[Finset.univ \ (srcN mU _ (inbN e)).view.set]{q} wu
abbrev offD (c : Dev nD) (q : PosShare TreeShare) (e : Exp) (wd : MBuf (F := F) c mD) : sProp 𝕄 :=
  mD.view.loc (c : Thread nD τ) ↦[Finset.univ \ (srcT mD _ (inbT e)).view.set]{q} wd
abbrev allG (c : Dev nD) (q : PosShare TreeShare) (wg : MBuf (F := F) c mG) : sProp 𝕄 := mG.view.loc (c : Thread nD τ) ↦{q} wg
abbrev allU (c : Dev nD) (q : PosShare TreeShare) (wu : MBuf (F := F) c mU) : sProp 𝕄 := mU.view.loc (c : Thread nD τ) ↦{q} wu
abbrev allD (c : Dev nD) (q : PosShare TreeShare) (wd : MBuf (F := F) c mD) : sProp 𝕄 := mD.view.loc (c : Thread nD τ) ↦{q} wd

theorem lendG (c : Dev nD) (q : PosShare TreeShare) (e : Exp) (wg : MBuf (F := F) c mG) : (allG c q wg : sProp 𝕄) ⊣⊢ iprop(part c (srcN mG _ (inbN e)) q wg ∗ offG c q e wg) :=
  pointsTo_split_subset (Finset.subset_univ _)
theorem lendU (c : Dev nD) (q : PosShare TreeShare) (e : Exp) (wg : MBuf (F := F) c mU) : (allU c q wg : sProp 𝕄) ⊣⊢ iprop(part c (srcN mU _ (inbN e)) q wg ∗ offU c q e wg) :=
  pointsTo_split_subset (Finset.subset_univ _)
theorem lendD (c : Dev nD) (q : PosShare TreeShare) (e : Exp) (wg : MBuf (F := F) c mD) : (allD c q wg : sProp 𝕄) ⊣⊢ iprop(part c (srcT mD _ (inbT e)) q wg ∗ offD c q e wg) :=
  pointsTo_split_subset (Finset.subset_univ _)

section Slots
variable (c : Dev nD) (wg : MBuf (F := F) c mG) (wu : MBuf (F := F) c mU) (wd : MBuf (F := F) c mD)

/-- Slot `s` with nothing coming into it. -/
def Idle (s : Fin 2) : sProp 𝕄 :=
  iprop(semVal ((c : Thread nD τ), cell s) 0 ∗ anyG (F := F) c s ∗ anyU (F := F) c s ∗ anyD (F := F) c s ∗ allG c (qs s) wg ∗ allU c (qs s) wu ∗ allD c (qs s) wd)
/-- Slot `s` with expert `e`'s weights on their way into it. -/
def Fly (s : Fin 2) (e : Exp) : sProp 𝕄 :=
  iprop((∃ fg fu fd, Transfers.Batch (countersEmb (U := Pipeline.UD sig nD τ)) (c : Thread nD τ) (cell s) () units
      (deliv c (qs s) s _ _ (inbN e) (inbT e) wg wu wd fg fu fd) 3 0)
    ∗ offG c (qs s) e wg ∗ offU c (qs s) e wu ∗ offD c (qs s) e wd)
/-- Expert `e`'s weights at bf16, in the buffers the body multiplies with. -/
def At (e : Exp) : sProp 𝕄 :=
  iprop(owns (c : Thread nD τ) bG fullShare (cvN ((srcN mG _ (inbN e)).view.read (Elt F) wg)) ∗ owns (c : Thread nD τ) bU fullShare (cvN ((srcN mU _ (inbN e)).view.read (Elt F) wu))
    ∗ owns (c : Thread nD τ) bD fullShare (cvT ((srcT mD _ (inbT e)).view.read (Elt F) wd)))
def AtAny : sProp 𝕄 :=
  iprop((∃ d : Vec F S2048x512 .bf16, owns (c : Thread nD τ) bG fullShare d) ∗ (∃ d : Vec F S2048x512 .bf16, owns (c : Thread nD τ) bU fullShare d) ∗ (∃ d : Vec F S512x2048 .bf16, owns (c : Thread nD τ) bD fullShare d))
/-- What a group computes with expert `e`. -/
def outE (x : Vec F S2048x128 .i32) (e : Exp) : Vec F S2048x128 .i32 :=
  outBlk x (cvN ((srcN mG _ (inbN e)).view.read (Elt F) wg)) (cvN ((srcN mU _ (inbN e)).view.read (Elt F) wu)) (cvT ((srcT mD _ (inbT e)).view.read (Elt F) wd))

theorem At_any (e : Exp) : (At c wg wu wd e : sProp 𝕄) ⊢ AtAny c := by
  unfold At AtAny
  iintro ⟨H1, H2, H3⟩
  isplitl [H1]; · iexists _; iexact H1
  isplitl [H2]; · iexists _; iexact H2
  iexists _; iexact H3
end Slots

end Cert.Experts

end
-- ==== Proof.Plan.lean ====
/- The plan of the groups: what the precondition says of the tables, a group at a time. -/
module

public import proofs.«01_k».proof.Proof.Slots
public import proofs.«01_k».proof.Proof.Gen.Pre_plan_ok
public import Idealize.ShloMosaic.Lib.StableHlo.Predicate
public import Idealize.ShloMosaic.PureOps.BitExact

@[expose] public section

set_option maxRecDepth 16384

noncomputable section

namespace Cert.Experts

open Idealize.ShloMosaic Idealize.ShloMosaic.TcCoe
open Cert.Kernel Cert.Kernel.Gen

attribute [local instance] Cert.Pre_plan_ok.Gen.facts

/-- The plan the six tables hold: the expert of every group, whether the group is an expert's first, whether it is in
    use, the block it reads, the next expert (or −1) and the slot. -/
structure Plan (te tf tv ti nx ws : S96.Idx → BitVec 32) : Prop where
  te_lt : ∀ j < 96, (te (ix j)).toNat < 32
  tf01 : ∀ j < 96, tf (ix j) = 0#32 ∨ tf (ix j) = 1#32
  tv01 : ∀ j < 96, tv (ix j) = 0#32 ∨ tv (ix j) = 1#32
  used : ∀ j < 96, tf (ix j) = 0#32 ∨ tv (ix j) = 1#32
  ti_lt : ∀ j < 96, (ti (ix j)).toNat < 96
  ti_eq : ∀ j < 96, tv (ix j) = 0#32 ∨ ti (ix j) = BitVec.ofNat 32 j
  nx_lt : ∀ j < 96, (nx (ix j)).toNat < 32 ∨ nx (ix j) = 4294967295#32
  ws01 : ∀ j < 96, ws (ix j) = 0#32 ∨ ws (ix j) = 1#32
  step : ∀ j < 95, (tf (ix (j + 1)) = 0#32 ∧ te (ix (j + 1)) = te (ix j) ∧ nx (ix (j + 1)) = nx (ix j) ∧ ws (ix (j + 1)) = ws (ix j))
    ∨ (tf (ix (j + 1)) = 1#32 ∧ te (ix (j + 1)) = nx (ix j) ∧ ws (ix (j + 1)) = 1#32 - ws (ix j))
  first : tf (ix 0) = 1#32 ∧ ws (ix 0) = 0#32
  last : nx (ix 95) = 4294967295#32

theorem or1 {a b : BitVec 1} : IntOp.ori a b = 1#1 ↔ a = 1#1 ∨ b = 1#1 := by revert a b; decide
theorem and1 {a b : BitVec 1} : IntOp.andi a b = 1#1 ↔ a = 1#1 ∧ b = 1#1 := by revert a b; decide
theorem toNat_of_range (n : ℕ) (hn : n < 2147483648) {w : BitVec 32} (h0 : IntOp.cmpi .sge w 0#32 = 1#1) (h1 : IntOp.cmpi .slt w (BitVec.ofNat 32 n) = 1#1) : w.toNat < n := by
  have e0 : BitVec.sle 0#32 w = true := by unfold IntOp.cmpi at h0; revert h0; cases BitVec.sle 0#32 w <;> simp
  have e1 : BitVec.slt w (BitVec.ofNat 32 n) = true := by unfold IntOp.cmpi at h1; revert h1; cases BitVec.slt w (BitVec.ofNat 32 n) <;> simp
  rw [BitVec.sle_eq_decide, decide_eq_true_eq, BitVec.toInt_eq_toNat_cond, BitVec.toInt_eq_toNat_cond] at e0
  rw [BitVec.slt_eq_decide, decide_eq_true_eq, BitVec.toInt_eq_toNat_cond, BitVec.toInt_eq_toNat_cond] at e1
  have := w.isLt
  simp only [BitVec.toNat_ofNat] at e0 e1
  split_ifs at e0 e1 <;> omega
theorem toNat_of_range1 {w : BitVec 32} (h0 : IntOp.cmpi .sge w 4294967295#32 = 1#1) (h1 : IntOp.cmpi .slt w 32#32 = 1#1) : w.toNat < 32 ∨ w = 4294967295#32 := by
  have e0 : BitVec.sle 4294967295#32 w = true := by unfold IntOp.cmpi at h0; revert h0; cases BitVec.sle 4294967295#32 w <;> simp
  have e1 : BitVec.slt w 32#32 = true := by unfold IntOp.cmpi at h1; revert h1; cases BitVec.slt w 32#32 <;> simp
  rw [BitVec.sle_eq_decide, decide_eq_true_eq, BitVec.toInt_eq_toNat_cond, BitVec.toInt_eq_toNat_cond] at e0
  rw [BitVec.slt_eq_decide, decide_eq_true_eq, BitVec.toInt_eq_toNat_cond, BitVec.toInt_eq_toNat_cond] at e1
  have := w.isLt
  by_cases h : w.toNat < 32
  · exact Or.inl h
  · refine Or.inr (BitVec.eq_of_toNat_eq ?_)
    simp only [BitVec.toNat_ofNat] at e0 e1 ⊢
    split_ifs at e0 e1 <;> omega

abbrev ixn (n j : ℕ) (h : j < n) : (⟨1, ![n]⟩ : Shape).Idx
  | ⟨0, _⟩ => (⟨j, h⟩ : Fin n)
  | ⟨_ + 1, h⟩ => absurd h (Nat.not_lt.2 (Nat.le_add_left _ _))

theorem ix_of (f : S96.Idx → BitVec 32) (x : S96.Idx) (j : ℕ) (hj : j < 96) (h : (x 0).val = j) : f x = f (ix j) := by
  congr 1
  funext a
  obtain rfl : a = 0 := Subsingleton.elim _ _
  exact Fin.ext (show (x 0).val = j % 96 by rw [h, Nat.mod_eq_of_lt hj])

theorem plan_of (te tf tv ti nx ws : S96.Idx → BitVec 32) (a6 : IVec S196608x128 32) (a7 a8 : FVec Bits S2x32x2048x512 .f32) (a9 : FVec Bits S2x32x512x2048 .f32)
    (h0 : (Cert.Pre_plan_ok.fn (F := Bits) te tf tv ti nx ws a6 a7 a8 a9).1 = fun _ => 1#1)
    (h1 : (Cert.Pre_plan_ok.fn (F := Bits) te tf tv ti nx ws a6 a7 a8 a9).2.1 = fun _ => 1#1)
    (h2 : (Cert.Pre_plan_ok.fn (F := Bits) te tf tv ti nx ws a6 a7 a8 a9).2.2 = fun _ => 1#1) : Plan te tf tv ti nx ws := by
  have e := fun j : ℕ => congrFun h0 (ix j)
  simp only [Cert.Pre_plan_ok.fn, Cert.Pre_plan_ok.fn_part1, Cert.Pre_plan_ok.fn_part2, Cert.Pre_plan_ok.fn_part3, Cert.Pre_plan_ok.fn_part4, cmpi, constantI, andi, ori, broadcastInDim, iotaInDim, extractStridedSlice, subi, and1, or1, StableHlo.Predicate.cmpi_eq_iff] at e
  have e1 := fun (j : ℕ) (hj : j < 95) => congrFun h1 (ixn 95 j hj)
  simp only [Cert.Pre_plan_ok.fn, Cert.Pre_plan_ok.fn_part1, Cert.Pre_plan_ok.fn_part2, Cert.Pre_plan_ok.fn_part3, Cert.Pre_plan_ok.fn_part4, cmpi, constantI, andi, ori, broadcastInDim, iotaInDim, extractStridedSlice, subi, and1, or1, StableHlo.Predicate.cmpi_eq_iff] at e1
  have e2 := congrFun h2 (ixn 1 0 (by decide))
  simp only [Cert.Pre_plan_ok.fn, Cert.Pre_plan_ok.fn_part1, Cert.Pre_plan_ok.fn_part2, Cert.Pre_plan_ok.fn_part3, Cert.Pre_plan_ok.fn_part4, cmpi, constantI, andi, ori, broadcastInDim, iotaInDim, extractStridedSlice, subi, and1, or1, StableHlo.Predicate.cmpi_eq_iff] at e2
  refine ⟨fun j hj => ?_, fun j hj => ?_, fun j hj => ?_, fun j hj => ?_, fun j hj => ?_, fun j hj => ?_, fun j hj => ?_, fun j hj => ?_, fun j hj => ?_, ?_, ?_⟩
  iterate 8 (obtain ⟨⟨⟨⟨⟨⟨⟨⟨⟨⟨q1, q2⟩, q3⟩, q4⟩, q5⟩, q6⟩, q7⟩, q8⟩, q9⟩, q10⟩, q11⟩ := e j
             first
               | exact toNat_of_range 32 (by decide) q1 q2
               | exact q3
               | exact q4
               | exact q5
               | exact toNat_of_range 96 (by decide) q6 q7
               | exact q8.imp id fun q => q.trans (congrArg (BitVec.ofNat 32) (Nat.mod_eq_of_lt hj))
               | exact toNat_of_range1 q9 q10
               | exact q11)
  · have q := e1 j hj
    have A : ∀ (f : S96.Idx → BitVec 32) (x : S96.Idx), (x 0).val = 1 + j → f x = f (ix (j + 1)) := fun f x hx => ix_of f x (j + 1) (by omega) (hx.trans (Nat.add_comm _ _))
    have B : ∀ (f : S96.Idx → BitVec 32) (x : S96.Idx), (x 0).val = 0 + j → f x = f (ix j) := fun f x hx => ix_of f x j (by omega) (hx.trans (Nat.zero_add _))
    refine q.imp (fun ⟨u0, ⟨u1, u2⟩, u3⟩ => ⟨(A tf _ rfl).symm.trans u0, (A te _ rfl).symm.trans (u1.trans (B te _ rfl)), (A nx _ rfl).symm.trans (u2.trans (B nx _ rfl)), (A ws _ rfl).symm.trans (u3.trans (B ws _ rfl))⟩)
      (fun ⟨u0, u1, u2⟩ => ⟨(A tf _ rfl).symm.trans u0, (A te _ rfl).symm.trans (u1.trans (B nx _ rfl)), (A ws _ rfl).symm.trans (u2.trans (congrArg (1#32 - ·) (B ws _ rfl)))⟩)
  · obtain ⟨⟨q1, q2⟩, q3⟩ := e2
    exact ⟨(ix_of tf _ 0 (by decide) rfl).symm.trans q1, (ix_of ws _ 0 (by decide) rfl).symm.trans q2⟩
  · obtain ⟨⟨q1, q2⟩, q3⟩ := e2
    exact (ix_of nx _ 95 (by decide) rfl).symm.trans q3

/-! ## The side conditions the body checks, of a group that is an expert's first -/

theorem nx_neg : ¬ k0_cond3 4294967295#32 = 1#1 := by decide
theorem nx_pos {w : BitVec 32} (h : w.toNat < 32) : k0_cond3 w = 1#1 := by
  have h0 : IntOp.cmpi .sge w 0#32 = 1#1 := (StableHlo.Predicate.sge_iff_toNat (by omega) (by decide)).2 (by simp)
  show Scalar.cmpi .ne (Scalar.extui (Scalar.cmpi .sge w 0#32)) 0#32 = 1#1
  rw [show Scalar.cmpi .sge w 0#32 = 1#1 from h0]; decide
theorem chk1 (i : grid0.Coords) (e : Exp) : k0_chk1 i e.1 := ⟨fun _ => inbN e, fun _ => inbT e⟩
theorem chk2 (s : Fin 2) (w : BitVec 32) : k0_chk2 1#32 1#32 (BitVec.ofNat 32 s.val) w := by
  refine ⟨fun _ _ => ?_, fun _ _ => ?_, fun _ _ => ?_, fun _ _ => ?_, fun _ _ => ?_⟩ <;> (revert s; decide)
theorem chk3 (e : Exp) : k0_chk3 1#32 1#32 e.1 e.1 := ⟨fun _ _ => inbN e, fun _ _ => inbT e⟩
theorem chk4 (s : Fin 2) : k0_chk4 1#32 1#32 (BitVec.ofNat 32 s.val) := by
  refine ⟨fun _ => ?_, fun _ => ?_, fun _ => ?_, fun _ => ?_, fun _ => ?_, fun _ => ?_, fun _ => ?_⟩ <;> (revert s; decide)
theorem chk5 (e : Exp) : k0_chk5 1#32 1#32 e.1 := ⟨fun _ => inbN e, fun _ => inbT e⟩

/-! ## The step's offsets -/

theorem off1_at : ∀ t : Fin grid0.N, k0_off1 (grid0.coords t) = ![t.val] := by decide +kernel
theorem cond1_at : ∀ t : Fin grid0.N, k0_cond1 (grid0.coords t) = 1#1 ↔ t.val = 0 := by decide +kernel

end Cert.Experts

end
-- ==== Proof.First0Next.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 8000000 in
/-- The first group of an expert whose weights are coming into slot 0, the next expert known. -/
theorem runFirst0 (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (te nx : Exp)
    (wg : MBuf (F := F) c mG) (wu : MBuf (F := F) c mU) (wd : MBuf (F := F) c mD)
    (fg fg' : MBuf (F := F) c sG) (fu fu' : MBuf (F := F) c sU) (fd fd' : MBuf (F := F) c sD)
    (W : Waits sig Unit) (q q' : PosShare TreeShare)
    (h1 : ¬ k0_cond1 i = 1#1) (c2 : k0_chk2 1#32 1#32 0#32 nx.1) (c3 : k0_chk3 1#32 1#32 nx.1 nx.1) (c4 : k0_chk4 1#32 1#32 0#32) (c5 : k0_chk5 1#32 1#32 te.1) (h3 : k0_cond3 nx.1 = 1#1)
    (K : PUnit → sProp 𝕄) :
        iprop(owns (c : Thread nD τ) arg7 fullShare x ∗ (∃ d, owns (c : Thread nD τ) arg11 fullShare d)
            ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx.1)
            ∗ word (F := F) c mWs fullShare.right (k0_off1 i) (k0_off1_inb i) (fun _ => 0#32)
            ∗ (∃ d, owns (c : Thread nD τ) bG fullShare d) ∗ (∃ d, owns (c : Thread nD τ) bU fullShare d) ∗ (∃ d, owns (c : Thread nD τ) bD fullShare d)
            ∗ Transfers.Batch (countersEmb (U := Pipeline.UD sig nD τ)) (c : Thread nD τ) (.dma 4) () units (deliv c q 0 _ _ (inbN te) (inbT te) wg wu wd fg fu fd) 3 0
            ∗ semVal ((c : Thread nD τ), SemLoc.dma 5) 0 ∗ part c (slotN sG ![(1 : Fin 2).val, 0, 0] (inbSlotN 1)) fullShare fg' ∗ part c (slotN sU ![(1 : Fin 2).val, 0, 0] (inbSlotN 1)) fullShare fu'
            ∗ part c (slotT sD ![(1 : Fin 2).val, 0, 0] (inbSlotT 1)) fullShare fd'
            ∗ part c (srcN mG _ (inbN nx)) q' wg ∗ part c (srcN mU _ (inbN nx)) q' wu ∗ part c (srcT mD _ (inbT nx)) q' wd
            ∗ owes (c : Thread nD τ) 0 W
            ∗ (iprop(owns (c : Thread nD τ) arg7 fullShare x ∗ owns (c : Thread nD τ) arg11 fullShare (outBlk x (cvN ((srcN mG _ (inbN te)).view.read (Elt F) wg)) (cvN ((srcN mU _ (inbN te)).view.read (Elt F) wu)) (cvT ((srcT mD _ (inbT te)).view.read (Elt F) wd)))
                ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx.1)
            ∗ word (F := F) c mWs fullShare.right (k0_off1 i) (k0_off1_inb i) (fun _ => 0#32)
                ∗ owns (c : Thread nD τ) bG fullShare (cvN ((srcN mG _ (inbN te)).view.read (Elt F) wg)) ∗ owns (c : Thread nD τ) bU fullShare (cvN ((srcN mU _ (inbN te)).view.read (Elt F) wu)) ∗ owns (c : Thread nD τ) bD fullShare (cvT ((srcT mD _ (inbT te)).view.read (Elt F) wd))
                ∗ semVal ((c : Thread nD τ), SemLoc.dma 4) 0 ∗ (∃ f, part c (slotN sG ![(0 : Fin 2).val, 0, 0] (inbSlotN 0)) fullShare f) ∗ (∃ f, part c (slotN sU ![(0 : Fin 2).val, 0, 0] (inbSlotN 0)) fullShare f)
                ∗ (∃ f, part c (slotT sD ![(0 : Fin 2).val, 0, 0] (inbSlotT 0)) fullShare f)
                ∗ part c (srcN mG _ (inbN te)) q wg ∗ part c (srcN mU _ (inbN te)) q wu ∗ part c (srcT mD _ (inbT te)) q wd
                ∗ Transfers.Batch (countersEmb (U := Pipeline.UD sig nD τ)) (c : Thread nD τ) (.dma 5) () units (deliv c q' 1 _ _ (inbN nx) (inbT nx) wg wu wd fg' fu' fd') 3 0
                ∗ (∃ W', owes (c : Thread nD τ) 0 W')) -∗ K ⟨⟩))
          ⊢ wp frame (wpE (defs₀ (F := F)) Variants.none c none) Set.univ (bodyOn (F := F) i arg7 harg7 arg11 harg11) K := by
    unfold bodyOn
    simp only [cc0_moe_experts_eq_skeleton]; unfold cc0_moe_experts_skel
    unfold owns
    iintro ⟨⟨%f0, %hf0, H0⟩, ⟨%d1, %f1, -, H1⟩, HTe, HTf, HTv, HNx, HWs, ⟨%dG, %gG, -, HG⟩, ⟨%dU, %gU, -, HU⟩, ⟨%dD, %gD, -, HD⟩, HB, HS1, HSG, HSU, HSD, HWG, HWU, HWD, HO, Hk⟩
    subst hf0
    imod (Transfers.batch_alloc' (Lvl := ℕ) (countersEmb (U := Pipeline.UD sig nD τ)) (c : Thread nD τ) () units (deliv c q' 1 _ _ (inbN nx) (inbT nx) wg wu wd fg' fu' fd') (sm := SemLoc.dma 5) (E := Set.univ)) $$ HS1 with HB1
    unfold deliv
    set_option sl_exec.foldHeartbeats 20000 in sl_exec
    sl_step
    iapply Hk
    have eG : runFirst0.sl.v48 c te wg c4 = (cvN ((srcN mG _ (inbN te)).view.read (Elt F) wg)) := (View.readCov_full _ _ _ _ _).trans (cvG_slot _ _ _ _ (by decide) _ _)
    have eU : runFirst0.sl.v50_1 c te wu c4 = (cvN ((srcN mU _ (inbN te)).view.read (Elt F) wu)) := (View.readCov_full _ _ _ _ _).trans (cvU_slot _ _ _ _ (by decide) _ _)
    have eD : runFirst0.sl.v56 c te wd c4 = (cvT ((srcT mD _ (inbT te)).view.read (Elt F) wd)) := (View.readCov_full _ _ _ _ _).trans (cvD_slot _ _ _ _ (by decide) _ _)
    have eH : runFirst0.sl.r_5 c arg7 te wg wu c4 f0 = hid (arg7.view.read (Elt F) f0) (cvN ((srcN mG _ (inbN te)).view.read (Elt F) wg)) (cvN ((srcN mU _ (inbN te)).view.read (Elt F) wu)) := by
      rw [← eG, ← eU]; rfl
    isplitl [H0]; · iexists f0; isplitr; · ipureintro; rfl
                    iexact H0
    isplitl [H1]
    · iexists _; isplitr; swap; · iexact H1
      ipureintro
      rw [eH, eD]
      exact read_outL arg11.view f1 (arg7.view.read (Elt F) f0) (cvN ((srcN mG _ (inbN te)).view.read (Elt F) wg)) (cvN ((srcN mU _ (inbN te)).view.read (Elt F) wu)) (cvT ((srcT mD _ (inbT te)).view.read (Elt F) wd))
    isplitl [HTe]; · iexact HTe
    isplitl [HTf]; · iexact HTf
    isplitl [HTv]; · iexact HTv
    isplitl [HNx]; · iexact HNx
    isplitl [HWs]; · iexact HWs
    isplitl [HG]
    · iexists _; isplitr; swap; · iexact HG
      ipureintro; exact (View.read_writes_full _ _ _ _ _).trans (cvG_slot _ _ _ _ (by decide) _ _)
    isplitl [HU]
    · iexists _; isplitr; swap; · iexact HU
      ipureintro; exact (View.read_writes_full _ _ _ _ _).trans (cvU_slot _ _ _ _ (by decide) _ _)
    isplitl [HD]
    · iexists _; isplitr; swap; · iexact HD
      ipureintro; exact (View.read_writes_full _ _ _ _ _).trans (cvD_slot _ _ _ _ (by decide) _ _)
    isplitl [HB]; · iexact HB
    isplitl [HB_dst0]; · iexists _; iexact HB_dst0
    isplitl [HB_dst1]; · iexists _; iexact HB_dst1
    isplitl [HB_dst2]; · iexists _; iexact HB_dst2
    isplitl [HB_src0]; · iexact HB_src0
    isplitl [HB_src1]; · iexact HB_src1
    isplitl [HB_src2]; · iexact HB_src2
    isplitl [HB1]; · iexact HB1
    iexists _; iexact HO

end Cert.Experts

end
-- ==== Proof.First0Last.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 8000000 in
/-- The first group of the last expert, whose weights are coming into slot 0. -/
theorem runFirst0Last (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (te : Exp) (nx : BitVec 32)
    (wg : MBuf (F := F) c mG) (wu : MBuf (F := F) c mU) (wd : MBuf (F := F) c mD)
    (fg fg' : MBuf (F := F) c sG) (fu fu' : MBuf (F := F) c sU) (fd fd' : MBuf (F := F) c sD)
    (W : Waits sig Unit) (q q' : PosShare TreeShare)
    (h1 : ¬ k0_cond1 i = 1#1) (c2 : k0_chk2 1#32 1#32 0#32 nx) (c4 : k0_chk4 1#32 1#32 0#32) (c5 : k0_chk5 1#32 1#32 te.1) (h3 : ¬ k0_cond3 nx = 1#1)
    (K : PUnit → sProp 𝕄) :
        iprop(owns (c : Thread nD τ) arg7 fullShare x ∗ (∃ d, owns (c : Thread nD τ) arg11 fullShare d)
            ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx)
            ∗ word (F := F) c mWs fullShare.right (k0_off1 i) (k0_off1_inb i) (fun _ => 0#32)
            ∗ (∃ d, owns (c : Thread nD τ) bG fullShare d) ∗ (∃ d, owns (c : Thread nD τ) bU fullShare d) ∗ (∃ d, owns (c : Thread nD τ) bD fullShare d)
            ∗ Transfers.Batch (countersEmb (U := Pipeline.UD sig nD τ)) (c : Thread nD τ) (.dma 4) () units (deliv c q 0 _ _ (inbN te) (inbT te) wg wu wd fg fu fd) 3 0
            ∗ owes (c : Thread nD τ) 0 W
            ∗ (iprop(owns (c : Thread nD τ) arg7 fullShare x ∗ owns (c : Thread nD τ) arg11 fullShare (outBlk x (cvN ((srcN mG _ (inbN te)).view.read (Elt F) wg)) (cvN ((srcN mU _ (inbN te)).view.read (Elt F) wu)) (cvT ((srcT mD _ (inbT te)).view.read (Elt F) wd)))
                ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx)
            ∗ word (F := F) c mWs fullShare.right (k0_off1 i) (k0_off1_inb i) (fun _ => 0#32)
                ∗ owns (c : Thread nD τ) bG fullShare (cvN ((srcN mG _ (inbN te)).view.read (Elt F) wg)) ∗ owns (c : Thread nD τ) bU fullShare (cvN ((srcN mU _ (inbN te)).view.read (Elt F) wu)) ∗ owns (c : Thread nD τ) bD fullShare (cvT ((srcT mD _ (inbT te)).view.read (Elt F) wd))
                ∗ semVal ((c : Thread nD τ), SemLoc.dma 4) 0 ∗ (∃ f, part c (slotN sG ![(0 : Fin 2).val, 0, 0] (inbSlotN 0)) fullShare f) ∗ (∃ f, part c (slotN sU ![(0 : Fin 2).val, 0, 0] (inbSlotN 0)) fullShare f)
                ∗ (∃ f, part c (slotT sD ![(0 : Fin 2).val, 0, 0] (inbSlotT 0)) fullShare f)
                ∗ part c (srcN mG _ (inbN te)) q wg ∗ part c (srcN mU _ (inbN te)) q wu ∗ part c (srcT mD _ (inbT te)) q wd
                ∗ (∃ W', owes (c : Thread nD τ) 0 W')) -∗ K ⟨⟩))
          ⊢ wp frame (wpE (defs₀ (F := F)) Variants.none c none) Set.univ (bodyOn (F := F) i arg7 harg7 arg11 harg11) K := by
    unfold bodyOn
    simp only [cc0_moe_experts_eq_skeleton]; unfold cc0_moe_experts_skel
    unfold owns
    iintro ⟨⟨%f0, %hf0, H0⟩, ⟨%d1, %f1, -, H1⟩, HTe, HTf, HTv, HNx, HWs, ⟨%dG, %gG, -, HG⟩, ⟨%dU, %gU, -, HU⟩, ⟨%dD, %gD, -, HD⟩, HB, HO, Hk⟩
    subst hf0
    unfold deliv
    set_option sl_exec.foldHeartbeats 20000 in sl_exec
    sl_step
    iapply Hk
    have eG : runFirst0Last.sl.v48 c te wg c4 = (cvN ((srcN mG _ (inbN te)).view.read (Elt F) wg)) := (View.readCov_full _ _ _ _ _).trans (cvG_slot _ _ _ _ (by decide) _ _)
    have eU : runFirst0Last.sl.v50_1 c te wu c4 = (cvN ((srcN mU _ (inbN te)).view.read (Elt F) wu)) := (View.readCov_full _ _ _ _ _).trans (cvU_slot _ _ _ _ (by decide) _ _)
    have eD : runFirst0Last.sl.v56 c te wd c4 = (cvT ((srcT mD _ (inbT te)).view.read (Elt F) wd)) := (View.readCov_full _ _ _ _ _).trans (cvD_slot _ _ _ _ (by decide) _ _)
    have eH : runFirst0Last.sl.r_4 c arg7 te wg wu c4 f0 = hid (arg7.view.read (Elt F) f0) (cvN ((srcN mG _ (inbN te)).view.read (Elt F) wg)) (cvN ((srcN mU _ (inbN te)).view.read (Elt F) wu)) := by
      rw [← eG, ← eU]; rfl
    isplitl [H0]; · iexists f0; isplitr; · ipureintro; rfl
                    iexact H0
    isplitl [H1]
    · iexists _; isplitr; swap; · iexact H1
      ipureintro
      rw [eH, eD]
      exact read_outL arg11.view f1 (arg7.view.read (Elt F) f0) (cvN ((srcN mG _ (inbN te)).view.read (Elt F) wg)) (cvN ((srcN mU _ (inbN te)).view.read (Elt F) wu)) (cvT ((srcT mD _ (inbT te)).view.read (Elt F) wd))
    isplitl [HTe]; · iexact HTe
    isplitl [HTf]; · iexact HTf
    isplitl [HTv]; · iexact HTv
    isplitl [HNx]; · iexact HNx
    isplitl [HWs]; · iexact HWs
    isplitl [HG]
    · iexists _; isplitr; swap; · iexact HG
      ipureintro; exact (View.read_writes_full _ _ _ _ _).trans (cvG_slot _ _ _ _ (by decide) _ _)
    isplitl [HU]
    · iexists _; isplitr; swap; · iexact HU
      ipureintro; exact (View.read_writes_full _ _ _ _ _).trans (cvU_slot _ _ _ _ (by decide) _ _)
    isplitl [HD]
    · iexists _; isplitr; swap; · iexact HD
      ipureintro; exact (View.read_writes_full _ _ _ _ _).trans (cvD_slot _ _ _ _ (by decide) _ _)
    isplitl [HB]; · iexact HB
    isplitl [HB_dst0]; · iexists _; iexact HB_dst0
    isplitl [HB_dst1]; · iexists _; iexact HB_dst1
    isplitl [HB_dst2]; · iexists _; iexact HB_dst2
    isplitl [HB_src0]; · iexact HB_src0
    isplitl [HB_src1]; · iexact HB_src1
    isplitl [HB_src2]; · iexact HB_src2
    iexists _; iexact HO

end Cert.Experts

end
-- ==== Proof.First1Next.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 8000000 in
/-- The first group of an expert whose weights are coming into slot 1, the next expert known. -/
theorem runFirst1 (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (te nx : Exp)
    (wg : MBuf (F := F) c mG) (wu : MBuf (F := F) c mU) (wd : MBuf (F := F) c mD)
    (fg fg' : MBuf (F := F) c sG) (fu fu' : MBuf (F := F) c sU) (fd fd' : MBuf (F := F) c sD)
    (W : Waits sig Unit) (q q' : PosShare TreeShare)
    (h1 : ¬ k0_cond1 i = 1#1) (c2 : k0_chk2 1#32 1#32 1#32 nx.1) (c3 : k0_chk3 1#32 1#32 nx.1 nx.1) (c4 : k0_chk4 1#32 1#32 1#32) (c5 : k0_chk5 1#32 1#32 te.1) (h3 : k0_cond3 nx.1 = 1#1)
    (K : PUnit → sProp 𝕄) :
        iprop(owns (c : Thread nD τ) arg7 fullShare x ∗ (∃ d, owns (c : Thread nD τ) arg11 fullShare d)
            ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx.1)
            ∗ word (F := F) c mWs fullShare.right (k0_off1 i) (k0_off1_inb i) (fun _ => 1#32)
            ∗ (∃ d, owns (c : Thread nD τ) bG fullShare d) ∗ (∃ d, owns (c : Thread nD τ) bU fullShare d) ∗ (∃ d, owns (c : Thread nD τ) bD fullShare d)
            ∗ Transfers.Batch (countersEmb (U := Pipeline.UD sig nD τ)) (c : Thread nD τ) (.dma 5) () units (deliv c q 1 _ _ (inbN te) (inbT te) wg wu wd fg fu fd) 3 0
            ∗ semVal ((c : Thread nD τ), SemLoc.dma 4) 0 ∗ part c (slotN sG ![(0 : Fin 2).val, 0, 0] (inbSlotN 0)) fullShare fg' ∗ part c (slotN sU ![(0 : Fin 2).val, 0, 0] (inbSlotN 0)) fullShare fu'
            ∗ part c (slotT sD ![(0 : Fin 2).val, 0, 0] (inbSlotT 0)) fullShare fd'
            ∗ part c (srcN mG _ (inbN nx)) q' wg ∗ part c (srcN mU _ (inbN nx)) q' wu ∗ part c (srcT mD _ (inbT nx)) q' wd
            ∗ owes (c : Thread nD τ) 0 W
            ∗ (iprop(owns (c : Thread nD τ) arg7 fullShare x ∗ owns (c : Thread nD τ) arg11 fullShare (outBlk x (cvN ((srcN mG _ (inbN te)).view.read (Elt F) wg)) (cvN ((srcN mU _ (inbN te)).view.read (Elt F) wu)) (cvT ((srcT mD _ (inbT te)).view.read (Elt F) wd)))
                ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx.1)
            ∗ word (F := F) c mWs fullShare.right (k0_off1 i) (k0_off1_inb i) (fun _ => 1#32)
                ∗ owns (c : Thread nD τ) bG fullShare (cvN ((srcN mG _ (inbN te)).view.read (Elt F) wg)) ∗ owns (c : Thread nD τ) bU fullShare (cvN ((srcN mU _ (inbN te)).view.read (Elt F) wu)) ∗ owns (c : Thread nD τ) bD fullShare (cvT ((srcT mD _ (inbT te)).view.read (Elt F) wd))
                ∗ semVal ((c : Thread nD τ), SemLoc.dma 5) 0 ∗ (∃ f, part c (slotN sG ![(1 : Fin 2).val, 0, 0] (inbSlotN 1)) fullShare f) ∗ (∃ f, part c (slotN sU ![(1 : Fin 2).val, 0, 0] (inbSlotN 1)) fullShare f)
                ∗ (∃ f, part c (slotT sD ![(1 : Fin 2).val, 0, 0] (inbSlotT 1)) fullShare f)
                ∗ part c (srcN mG _ (inbN te)) q wg ∗ part c (srcN mU _ (inbN te)) q wu ∗ part c (srcT mD _ (inbT te)) q wd
                ∗ Transfers.Batch (countersEmb (U := Pipeline.UD sig nD τ)) (c : Thread nD τ) (.dma 4) () units (deliv c q' 0 _ _ (inbN nx) (inbT nx) wg wu wd fg' fu' fd') 3 0
                ∗ (∃ W', owes (c : Thread nD τ) 0 W')) -∗ K ⟨⟩))
          ⊢ wp frame (wpE (defs₀ (F := F)) Variants.none c none) Set.univ (bodyOn (F := F) i arg7 harg7 arg11 harg11) K := by
    unfold bodyOn
    simp only [cc0_moe_experts_eq_skeleton]; unfold cc0_moe_experts_skel
    unfold owns
    iintro ⟨⟨%f0, %hf0, H0⟩, ⟨%d1, %f1, -, H1⟩, HTe, HTf, HTv, HNx, HWs, ⟨%dG, %gG, -, HG⟩, ⟨%dU, %gU, -, HU⟩, ⟨%dD, %gD, -, HD⟩, HB, HS1, HSG, HSU, HSD, HWG, HWU, HWD, HO, Hk⟩
    subst hf0
    imod (Transfers.batch_alloc' (Lvl := ℕ) (countersEmb (U := Pipeline.UD sig nD τ)) (c : Thread nD τ) () units (deliv c q' 0 _ _ (inbN nx) (inbT nx) wg wu wd fg' fu' fd') (sm := SemLoc.dma 4) (E := Set.univ)) $$ HS1 with HB1
    unfold deliv
    set_option sl_exec.foldHeartbeats 20000 in sl_exec
    sl_step
    iapply Hk
    have eG : runFirst1.sl.v48 c te wg c4 = (cvN ((srcN mG _ (inbN te)).view.read (Elt F) wg)) := (View.readCov_full _ _ _ _ _).trans (cvG_slot _ _ _ _ (by decide) _ _)
    have eU : runFirst1.sl.v50_1 c te wu c4 = (cvN ((srcN mU _ (inbN te)).view.read (Elt F) wu)) := (View.readCov_full _ _ _ _ _).trans (cvU_slot _ _ _ _ (by decide) _ _)
    have eD : runFirst1.sl.v56 c te wd c4 = (cvT ((srcT mD _ (inbT te)).view.read (Elt F) wd)) := (View.readCov_full _ _ _ _ _).trans (cvD_slot _ _ _ _ (by decide) _ _)
    have eH : runFirst1.sl.r_5 c arg7 te wg wu c4 f0 = hid (arg7.view.read (Elt F) f0) (cvN ((srcN mG _ (inbN te)).view.read (Elt F) wg)) (cvN ((srcN mU _ (inbN te)).view.read (Elt F) wu)) := by
      rw [← eG, ← eU]; rfl
    isplitl [H0]; · iexists f0; isplitr; · ipureintro; rfl
                    iexact H0
    isplitl [H1]
    · iexists _; isplitr; swap; · iexact H1
      ipureintro
      rw [eH, eD]
      exact read_outL arg11.view f1 (arg7.view.read (Elt F) f0) (cvN ((srcN mG _ (inbN te)).view.read (Elt F) wg)) (cvN ((srcN mU _ (inbN te)).view.read (Elt F) wu)) (cvT ((srcT mD _ (inbT te)).view.read (Elt F) wd))
    isplitl [HTe]; · iexact HTe
    isplitl [HTf]; · iexact HTf
    isplitl [HTv]; · iexact HTv
    isplitl [HNx]; · iexact HNx
    isplitl [HWs]; · iexact HWs
    isplitl [HG]
    · iexists _; isplitr; swap; · iexact HG
      ipureintro; exact (View.read_writes_full _ _ _ _ _).trans (cvG_slot _ _ _ _ (by decide) _ _)
    isplitl [HU]
    · iexists _; isplitr; swap; · iexact HU
      ipureintro; exact (View.read_writes_full _ _ _ _ _).trans (cvU_slot _ _ _ _ (by decide) _ _)
    isplitl [HD]
    · iexists _; isplitr; swap; · iexact HD
      ipureintro; exact (View.read_writes_full _ _ _ _ _).trans (cvD_slot _ _ _ _ (by decide) _ _)
    isplitl [HB]; · iexact HB
    isplitl [HB_dst0]; · iexists _; iexact HB_dst0
    isplitl [HB_dst1]; · iexists _; iexact HB_dst1
    isplitl [HB_dst2]; · iexists _; iexact HB_dst2
    isplitl [HB_src0]; · iexact HB_src0
    isplitl [HB_src1]; · iexact HB_src1
    isplitl [HB_src2]; · iexact HB_src2
    isplitl [HB1]; · iexact HB1
    iexists _; iexact HO

end Cert.Experts

end
-- ==== Proof.First1Last.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 8000000 in
/-- The first group of the last expert, whose weights are coming into slot 1. -/
theorem runFirst1Last (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (te : Exp) (nx : BitVec 32)
    (wg : MBuf (F := F) c mG) (wu : MBuf (F := F) c mU) (wd : MBuf (F := F) c mD)
    (fg fg' : MBuf (F := F) c sG) (fu fu' : MBuf (F := F) c sU) (fd fd' : MBuf (F := F) c sD)
    (W : Waits sig Unit) (q q' : PosShare TreeShare)
    (h1 : ¬ k0_cond1 i = 1#1) (c2 : k0_chk2 1#32 1#32 1#32 nx) (c4 : k0_chk4 1#32 1#32 1#32) (c5 : k0_chk5 1#32 1#32 te.1) (h3 : ¬ k0_cond3 nx = 1#1)
    (K : PUnit → sProp 𝕄) :
        iprop(owns (c : Thread nD τ) arg7 fullShare x ∗ (∃ d, owns (c : Thread nD τ) arg11 fullShare d)
            ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx)
            ∗ word (F := F) c mWs fullShare.right (k0_off1 i) (k0_off1_inb i) (fun _ => 1#32)
            ∗ (∃ d, owns (c : Thread nD τ) bG fullShare d) ∗ (∃ d, owns (c : Thread nD τ) bU fullShare d) ∗ (∃ d, owns (c : Thread nD τ) bD fullShare d)
            ∗ Transfers.Batch (countersEmb (U := Pipeline.UD sig nD τ)) (c : Thread nD τ) (.dma 5) () units (deliv c q 1 _ _ (inbN te) (inbT te) wg wu wd fg fu fd) 3 0
            ∗ owes (c : Thread nD τ) 0 W
            ∗ (iprop(owns (c : Thread nD τ) arg7 fullShare x ∗ owns (c : Thread nD τ) arg11 fullShare (outBlk x (cvN ((srcN mG _ (inbN te)).view.read (Elt F) wg)) (cvN ((srcN mU _ (inbN te)).view.read (Elt F) wu)) (cvT ((srcT mD _ (inbT te)).view.read (Elt F) wd)))
                ∗ word (F := F) c mTe fullShare.right (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx)
            ∗ word (F := F) c mWs fullShare.right (k0_off1 i) (k0_off1_inb i) (fun _ => 1#32)
                ∗ owns (c : Thread nD τ) bG fullShare (cvN ((srcN mG _ (inbN te)).view.read (Elt F) wg)) ∗ owns (c : Thread nD τ) bU fullShare (cvN ((srcN mU _ (inbN te)).view.read (Elt F) wu)) ∗ owns (c : Thread nD τ) bD fullShare (cvT ((srcT mD _ (inbT te)).view.read (Elt F) wd))
                ∗ semVal ((c : Thread nD τ), SemLoc.dma 5) 0 ∗ (∃ f, part c (slotN sG ![(1 : Fin 2).val, 0, 0] (inbSlotN 1)) fullShare f) ∗ (∃ f, part c (slotN sU ![(1 : Fin 2).val, 0, 0] (inbSlotN 1)) fullShare f)
                ∗ (∃ f, part c (slotT sD ![(1 : Fin 2).val, 0, 0] (inbSlotT 1)) fullShare f)
                ∗ part c (srcN mG _ (inbN te)) q wg ∗ part c (srcN mU _ (inbN te)) q wu ∗ part c (srcT mD _ (inbT te)) q wd
                ∗ (∃ W', owes (c : Thread nD τ) 0 W')) -∗ K ⟨⟩))
          ⊢ wp frame (wpE (defs₀ (F := F)) Variants.none c none) Set.univ (bodyOn (F := F) i arg7 harg7 arg11 harg11) K := by
    unfold bodyOn
    simp only [cc0_moe_experts_eq_skeleton]; unfold cc0_moe_experts_skel
    unfold owns
    iintro ⟨⟨%f0, %hf0, H0⟩, ⟨%d1, %f1, -, H1⟩, HTe, HTf, HTv, HNx, HWs, ⟨%dG, %gG, -, HG⟩, ⟨%dU, %gU, -, HU⟩, ⟨%dD, %gD, -, HD⟩, HB, HO, Hk⟩
    subst hf0
    unfold deliv
    set_option sl_exec.foldHeartbeats 20000 in sl_exec
    sl_step
    iapply Hk
    have eG : runFirst1Last.sl.v48 c te wg c4 = (cvN ((srcN mG _ (inbN te)).view.read (Elt F) wg)) := (View.readCov_full _ _ _ _ _).trans (cvG_slot _ _ _ _ (by decide) _ _)
    have eU : runFirst1Last.sl.v50_1 c te wu c4 = (cvN ((srcN mU _ (inbN te)).view.read (Elt F) wu)) := (View.readCov_full _ _ _ _ _).trans (cvU_slot _ _ _ _ (by decide) _ _)
    have eD : runFirst1Last.sl.v56 c te wd c4 = (cvT ((srcT mD _ (inbT te)).view.read (Elt F) wd)) := (View.readCov_full _ _ _ _ _).trans (cvD_slot _ _ _ _ (by decide) _ _)
    have eH : runFirst1Last.sl.r_4 c arg7 te wg wu c4 f0 = hid (arg7.view.read (Elt F) f0) (cvN ((srcN mG _ (inbN te)).view.read (Elt F) wg)) (cvN ((srcN mU _ (inbN te)).view.read (Elt F) wu)) := by
      rw [← eG, ← eU]; rfl
    isplitl [H0]; · iexists f0; isplitr; · ipureintro; rfl
                    iexact H0
    isplitl [H1]
    · iexists _; isplitr; swap; · iexact H1
      ipureintro
      rw [eH, eD]
      exact read_outL arg11.view f1 (arg7.view.read (Elt F) f0) (cvN ((srcN mG _ (inbN te)).view.read (Elt F) wg)) (cvN ((srcN mU _ (inbN te)).view.read (Elt F) wu)) (cvT ((srcT mD _ (inbT te)).view.read (Elt F) wd))
    isplitl [HTe]; · iexact HTe
    isplitl [HTf]; · iexact HTf
    isplitl [HTv]; · iexact HTv
    isplitl [HNx]; · iexact HNx
    isplitl [HWs]; · iexact HWs
    isplitl [HG]
    · iexists _; isplitr; swap; · iexact HG
      ipureintro; exact (View.read_writes_full _ _ _ _ _).trans (cvG_slot _ _ _ _ (by decide) _ _)
    isplitl [HU]
    · iexists _; isplitr; swap; · iexact HU
      ipureintro; exact (View.read_writes_full _ _ _ _ _).trans (cvU_slot _ _ _ _ (by decide) _ _)
    isplitl [HD]
    · iexists _; isplitr; swap; · iexact HD
      ipureintro; exact (View.read_writes_full _ _ _ _ _).trans (cvD_slot _ _ _ _ (by decide) _ _)
    isplitl [HB]; · iexact HB
    isplitl [HB_dst0]; · iexists _; iexact HB_dst0
    isplitl [HB_dst1]; · iexists _; iexact HB_dst1
    isplitl [HB_dst2]; · iexists _; iexact HB_dst2
    isplitl [HB_src0]; · iexact HB_src0
    isplitl [HB_src1]; · iexact HB_src1
    isplitl [HB_src2]; · iexact HB_src2
    iexists _; iexact HO

end Cert.Experts

end
-- ==== Proof.StartNext.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 8000000 in
/-- The first group of all, the next expert known. -/
theorem runStart (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (te nx : Exp)
    (wg : MBuf (F := F) c mG) (wu : MBuf (F := F) c mU) (wd : MBuf (F := F) c mD)
    (fg fg' : MBuf (F := F) c sG) (fu fu' : MBuf (F := F) c sU) (fd fd' : MBuf (F := F) c sD)
    (W : Waits sig Unit) (q q' : PosShare TreeShare) (r r' : PosShare TreeShare)
    (h1 : k0_cond1 i = 1#1) (c1 : k0_chk1 i te.1) (c2 : k0_chk2 1#32 1#32 0#32 nx.1) (c3 : k0_chk3 1#32 1#32 nx.1 nx.1) (c4 : k0_chk4 1#32 1#32 0#32) (c5 : k0_chk5 1#32 1#32 te.1) (h3 : k0_cond3 nx.1 = 1#1)
    (K : PUnit → sProp 𝕄) :
        iprop(owns (c : Thread nD τ) arg7 fullShare x ∗ (∃ d, owns (c : Thread nD τ) arg11 fullShare d)
            ∗ word (F := F) c mTe r ![0] te0_inb (fun _ => te.1) ∗ word (F := F) c mTe r' (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx.1)
            ∗ word (F := F) c mWs fullShare.right (k0_off1 i) (k0_off1_inb i) (fun _ => 0#32)
            ∗ (∃ d, owns (c : Thread nD τ) bG fullShare d) ∗ (∃ d, owns (c : Thread nD τ) bU fullShare d) ∗ (∃ d, owns (c : Thread nD τ) bD fullShare d)
            ∗ semVal ((c : Thread nD τ), SemLoc.dma 4) 0 ∗ part c (slotN sG ![(0 : Fin 2).val, 0, 0] (inbSlotN 0)) fullShare fg ∗ part c (slotN sU ![(0 : Fin 2).val, 0, 0] (inbSlotN 0)) fullShare fu
            ∗ part c (slotT sD ![(0 : Fin 2).val, 0, 0] (inbSlotT 0)) fullShare fd
            ∗ part c (srcN mG _ (inbN te)) q wg ∗ part c (srcN mU _ (inbN te)) q wu ∗ part c (srcT mD _ (inbT te)) q wd
            ∗ semVal ((c : Thread nD τ), SemLoc.dma 5) 0 ∗ part c (slotN sG ![(1 : Fin 2).val, 0, 0] (inbSlotN 1)) fullShare fg' ∗ part c (slotN sU ![(1 : Fin 2).val, 0, 0] (inbSlotN 1)) fullShare fu'
            ∗ part c (slotT sD ![(1 : Fin 2).val, 0, 0] (inbSlotT 1)) fullShare fd'
            ∗ part c (srcN mG _ (inbN nx)) q' wg ∗ part c (srcN mU _ (inbN nx)) q' wu ∗ part c (srcT mD _ (inbT nx)) q' wd
            ∗ owes (c : Thread nD τ) 0 W
            ∗ (iprop(owns (c : Thread nD τ) arg7 fullShare x ∗ owns (c : Thread nD τ) arg11 fullShare (outBlk x (cvN ((srcN mG _ (inbN te)).view.read (Elt F) wg)) (cvN ((srcN mU _ (inbN te)).view.read (Elt F) wu)) (cvT ((srcT mD _ (inbT te)).view.read (Elt F) wd)))
                ∗ word (F := F) c mTe r ![0] te0_inb (fun _ => te.1) ∗ word (F := F) c mTe r' (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx.1)
            ∗ word (F := F) c mWs fullShare.right (k0_off1 i) (k0_off1_inb i) (fun _ => 0#32)
                ∗ owns (c : Thread nD τ) bG fullShare (cvN ((srcN mG _ (inbN te)).view.read (Elt F) wg)) ∗ owns (c : Thread nD τ) bU fullShare (cvN ((srcN mU _ (inbN te)).view.read (Elt F) wu)) ∗ owns (c : Thread nD τ) bD fullShare (cvT ((srcT mD _ (inbT te)).view.read (Elt F) wd))
                ∗ semVal ((c : Thread nD τ), SemLoc.dma 4) 0 ∗ (∃ f, part c (slotN sG ![(0 : Fin 2).val, 0, 0] (inbSlotN 0)) fullShare f) ∗ (∃ f, part c (slotN sU ![(0 : Fin 2).val, 0, 0] (inbSlotN 0)) fullShare f)
                ∗ (∃ f, part c (slotT sD ![(0 : Fin 2).val, 0, 0] (inbSlotT 0)) fullShare f)
                ∗ part c (srcN mG _ (inbN te)) q wg ∗ part c (srcN mU _ (inbN te)) q wu ∗ part c (srcT mD _ (inbT te)) q wd
                ∗ Transfers.Batch (countersEmb (U := Pipeline.UD sig nD τ)) (c : Thread nD τ) (.dma 5) () units (deliv c q' 1 _ _ (inbN nx) (inbT nx) wg wu wd fg' fu' fd') 3 0
                ∗ (∃ W', owes (c : Thread nD τ) 0 W')) -∗ K ⟨⟩))
          ⊢ wp frame (wpE (defs₀ (F := F)) Variants.none c none) Set.univ (bodyOn (F := F) i arg7 harg7 arg11 harg11) K := by
    unfold bodyOn
    simp only [cc0_moe_experts_eq_skeleton]; unfold cc0_moe_experts_skel
    unfold owns
    iintro ⟨⟨%f0, %hf0, H0⟩, ⟨%d1, %f1, -, H1⟩, HTe0, HTe, HTf, HTv, HNx, HWs, ⟨%dG, %gG, -, HG⟩, ⟨%dU, %gU, -, HU⟩, ⟨%dD, %gD, -, HD⟩, HS, HTG, HTU, HTD, HVG, HVU, HVD, HS1, HSG, HSU, HSD, HWG, HWU, HWD, HO, Hk⟩
    subst hf0
    imod (Transfers.batch_alloc' (Lvl := ℕ) (countersEmb (U := Pipeline.UD sig nD τ)) (c : Thread nD τ) () units (deliv c q 0 _ _ (inbN te) (inbT te) wg wu wd fg fu fd) (sm := SemLoc.dma 4) (E := Set.univ)) $$ HS with HB
    imod (Transfers.batch_alloc' (Lvl := ℕ) (countersEmb (U := Pipeline.UD sig nD τ)) (c : Thread nD τ) () units (deliv c q' 1 _ _ (inbN nx) (inbT nx) wg wu wd fg' fu' fd') (sm := SemLoc.dma 5) (E := Set.univ)) $$ HS1 with HB1
    unfold deliv
    set_option sl_exec.foldHeartbeats 20000 in sl_exec
    sl_step
    iapply Hk
    have eG : runStart.sl.v48 c te wg c4 = (cvN ((srcN mG _ (inbN te)).view.read (Elt F) wg)) := (View.readCov_full _ _ _ _ _).trans (cvG_slot _ _ _ _ (by decide) _ _)
    have eU : runStart.sl.v50_1 c te wu c4 = (cvN ((srcN mU _ (inbN te)).view.read (Elt F) wu)) := (View.readCov_full _ _ _ _ _).trans (cvU_slot _ _ _ _ (by decide) _ _)
    have eD : runStart.sl.v56 c te wd c4 = (cvT ((srcT mD _ (inbT te)).view.read (Elt F) wd)) := (View.readCov_full _ _ _ _ _).trans (cvD_slot _ _ _ _ (by decide) _ _)
    have eH : runStart.sl.r_6 c arg7 te wg wu c4 f0 = hid (arg7.view.read (Elt F) f0) (cvN ((srcN mG _ (inbN te)).view.read (Elt F) wg)) (cvN ((srcN mU _ (inbN te)).view.read (Elt F) wu)) := by
      rw [← eG, ← eU]; rfl
    isplitl [H0]; · iexists f0; isplitr; · ipureintro; rfl
                    iexact H0
    isplitl [H1]
    · iexists _; isplitr; swap; · iexact H1
      ipureintro
      rw [eH, eD]
      exact read_outL arg11.view f1 (arg7.view.read (Elt F) f0) (cvN ((srcN mG _ (inbN te)).view.read (Elt F) wg)) (cvN ((srcN mU _ (inbN te)).view.read (Elt F) wu)) (cvT ((srcT mD _ (inbT te)).view.read (Elt F) wd))
    isplitl [HTe0]; · iexact HTe0
    isplitl [HTe]; · iexact HTe
    isplitl [HTf]; · iexact HTf
    isplitl [HTv]; · iexact HTv
    isplitl [HNx]; · iexact HNx
    isplitl [HWs]; · iexact HWs
    isplitl [HG]
    · iexists _; isplitr; swap; · iexact HG
      ipureintro; exact (View.read_writes_full _ _ _ _ _).trans (cvG_slot _ _ _ _ (by decide) _ _)
    isplitl [HU]
    · iexists _; isplitr; swap; · iexact HU
      ipureintro; exact (View.read_writes_full _ _ _ _ _).trans (cvU_slot _ _ _ _ (by decide) _ _)
    isplitl [HD]
    · iexists _; isplitr; swap; · iexact HD
      ipureintro; exact (View.read_writes_full _ _ _ _ _).trans (cvD_slot _ _ _ _ (by decide) _ _)
    isplitl [HB]; · iexact HB
    isplitl [HB_dst0]; · iexists _; iexact HB_dst0
    isplitl [HB_dst1]; · iexists _; iexact HB_dst1
    isplitl [HB_dst2]; · iexists _; iexact HB_dst2
    isplitl [HB_src0]; · iexact HB_src0
    isplitl [HB_src1]; · iexact HB_src1
    isplitl [HB_src2]; · iexact HB_src2
    isplitl [HB1]; · iexact HB1
    iexists _; iexact HO

end Cert.Experts

end
-- ==== Proof.StartLast.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 8000000 in
/-- The first group of all, of the only expert. -/
theorem runStartLast (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (te : Exp) (nx : BitVec 32)
    (wg : MBuf (F := F) c mG) (wu : MBuf (F := F) c mU) (wd : MBuf (F := F) c mD)
    (fg fg' : MBuf (F := F) c sG) (fu fu' : MBuf (F := F) c sU) (fd fd' : MBuf (F := F) c sD)
    (W : Waits sig Unit) (q q' : PosShare TreeShare) (r r' : PosShare TreeShare)
    (h1 : k0_cond1 i = 1#1) (c1 : k0_chk1 i te.1) (c2 : k0_chk2 1#32 1#32 0#32 nx) (c4 : k0_chk4 1#32 1#32 0#32) (c5 : k0_chk5 1#32 1#32 te.1) (h3 : ¬ k0_cond3 nx = 1#1)
    (K : PUnit → sProp 𝕄) :
        iprop(owns (c : Thread nD τ) arg7 fullShare x ∗ (∃ d, owns (c : Thread nD τ) arg11 fullShare d)
            ∗ word (F := F) c mTe r ![0] te0_inb (fun _ => te.1) ∗ word (F := F) c mTe r' (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx)
            ∗ word (F := F) c mWs fullShare.right (k0_off1 i) (k0_off1_inb i) (fun _ => 0#32)
            ∗ (∃ d, owns (c : Thread nD τ) bG fullShare d) ∗ (∃ d, owns (c : Thread nD τ) bU fullShare d) ∗ (∃ d, owns (c : Thread nD τ) bD fullShare d)
            ∗ semVal ((c : Thread nD τ), SemLoc.dma 4) 0 ∗ part c (slotN sG ![(0 : Fin 2).val, 0, 0] (inbSlotN 0)) fullShare fg ∗ part c (slotN sU ![(0 : Fin 2).val, 0, 0] (inbSlotN 0)) fullShare fu
            ∗ part c (slotT sD ![(0 : Fin 2).val, 0, 0] (inbSlotT 0)) fullShare fd
            ∗ part c (srcN mG _ (inbN te)) q wg ∗ part c (srcN mU _ (inbN te)) q wu ∗ part c (srcT mD _ (inbT te)) q wd
            ∗ owes (c : Thread nD τ) 0 W
            ∗ (iprop(owns (c : Thread nD τ) arg7 fullShare x ∗ owns (c : Thread nD τ) arg11 fullShare (outBlk x (cvN ((srcN mG _ (inbN te)).view.read (Elt F) wg)) (cvN ((srcN mU _ (inbN te)).view.read (Elt F) wu)) (cvT ((srcT mD _ (inbT te)).view.read (Elt F) wd)))
                ∗ word (F := F) c mTe r ![0] te0_inb (fun _ => te.1) ∗ word (F := F) c mTe r' (k0_off1 i) (k0_off1_inb i) (fun _ => te.1) ∗ word (F := F) c mTf fullShare.right (k0_off1 i) (k0_off1_inb i) (fun _ => 1#32)
            ∗ word (F := F) c mTv fullShare.right (k0_off1 i) (k0_off1_inb i) (fun _ => 1#32) ∗ word (F := F) c mNx fullShare.right (k0_off1 i) (k0_off1_inb i) (fun _ => nx)
            ∗ word (F := F) c mWs fullShare.right (k0_off1 i) (k0_off1_inb i) (fun _ => 0#32)
                ∗ owns (c : Thread nD τ) bG fullShare (cvN ((srcN mG _ (inbN te)).view.read (Elt F) wg)) ∗ owns (c : Thread nD τ) bU fullShare (cvN ((srcN mU _ (inbN te)).view.read (Elt F) wu)) ∗ owns (c : Thread nD τ) bD fullShare (cvT ((srcT mD _ (inbT te)).view.read (Elt F) wd))
                ∗ semVal ((c : Thread nD τ), SemLoc.dma 4) 0 ∗ (∃ f, part c (slotN sG ![(0 : Fin 2).val, 0, 0] (inbSlotN 0)) fullShare f) ∗ (∃ f, part c (slotN sU ![(0 : Fin 2).val, 0, 0] (inbSlotN 0)) fullShare f)
                ∗ (∃ f, part c (slotT sD ![(0 : Fin 2).val, 0, 0] (inbSlotT 0)) fullShare f)
                ∗ part c (srcN mG _ (inbN te)) q wg ∗ part c (srcN mU _ (inbN te)) q wu ∗ part c (srcT mD _ (inbT te)) q wd
                ∗ (∃ W', owes (c : Thread nD τ) 0 W')) -∗ K ⟨⟩))
          ⊢ wp frame (wpE (defs₀ (F := F)) Variants.none c none) Set.univ (bodyOn (F := F) i arg7 harg7 arg11 harg11) K := by
    unfold bodyOn
    simp only [cc0_moe_experts_eq_skeleton]; unfold cc0_moe_experts_skel
    unfold owns
    iintro ⟨⟨%f0, %hf0, H0⟩, ⟨%d1, %f1, -, H1⟩, HTe0, HTe, HTf, HTv, HNx, HWs, ⟨%dG, %gG, -, HG⟩, ⟨%dU, %gU, -, HU⟩, ⟨%dD, %gD, -, HD⟩, HS, HTG, HTU, HTD, HVG, HVU, HVD, HO, Hk⟩
    subst hf0
    imod (Transfers.batch_alloc' (Lvl := ℕ) (countersEmb (U := Pipeline.UD sig nD τ)) (c : Thread nD τ) () units (deliv c q 0 _ _ (inbN te) (inbT te) wg wu wd fg fu fd) (sm := SemLoc.dma 4) (E := Set.univ)) $$ HS with HB
    unfold deliv
    set_option sl_exec.foldHeartbeats 20000 in sl_exec
    sl_step
    iapply Hk
    have eG : runStartLast.sl.v48 c te wg c4 = (cvN ((srcN mG _ (inbN te)).view.read (Elt F) wg)) := (View.readCov_full _ _ _ _ _).trans (cvG_slot _ _ _ _ (by decide) _ _)
    have eU : runStartLast.sl.v50_1 c te wu c4 = (cvN ((srcN mU _ (inbN te)).view.read (Elt F) wu)) := (View.readCov_full _ _ _ _ _).trans (cvU_slot _ _ _ _ (by decide) _ _)
    have eD : runStartLast.sl.v56 c te wd c4 = (cvT ((srcT mD _ (inbT te)).view.read (Elt F) wd)) := (View.readCov_full _ _ _ _ _).trans (cvD_slot _ _ _ _ (by decide) _ _)
    have eH : runStartLast.sl.r_5 c arg7 te wg wu c4 f0 = hid (arg7.view.read (Elt F) f0) (cvN ((srcN mG _ (inbN te)).view.read (Elt F) wg)) (cvN ((srcN mU _ (inbN te)).view.read (Elt F) wu)) := by
      rw [← eG, ← eU]; rfl
    isplitl [H0]; · iexists f0; isplitr; · ipureintro; rfl
                    iexact H0
    isplitl [H1]
    · iexists _; isplitr; swap; · iexact H1
      ipureintro
      rw [eH, eD]
      exact read_outL arg11.view f1 (arg7.view.read (Elt F) f0) (cvN ((srcN mG _ (inbN te)).view.read (Elt F) wg)) (cvN ((srcN mU _ (inbN te)).view.read (Elt F) wu)) (cvT ((srcT mD _ (inbT te)).view.read (Elt F) wd))
    isplitl [HTe0]; · iexact HTe0
    isplitl [HTe]; · iexact HTe
    isplitl [HTf]; · iexact HTf
    isplitl [HTv]; · iexact HTv
    isplitl [HNx]; · iexact HNx
    isplitl [HWs]; · iexact HWs
    isplitl [HG]
    · iexists _; isplitr; swap; · iexact HG
      ipureintro; exact (View.read_writes_full _ _ _ _ _).trans (cvG_slot _ _ _ _ (by decide) _ _)
    isplitl [HU]
    · iexists _; isplitr; swap; · iexact HU
      ipureintro; exact (View.read_writes_full _ _ _ _ _).trans (cvU_slot _ _ _ _ (by decide) _ _)
    isplitl [HD]
    · iexists _; isplitr; swap; · iexact HD
      ipureintro; exact (View.read_writes_full _ _ _ _ _).trans (cvD_slot _ _ _ _ (by decide) _ _)
    isplitl [HB]; · iexact HB
    isplitl [HB_dst0]; · iexists _; iexact HB_dst0
    isplitl [HB_dst1]; · iexists _; iexact HB_dst1
    isplitl [HB_dst2]; · iexists _; iexact HB_dst2
    isplitl [HB_src0]; · iexact HB_src0
    isplitl [HB_src1]; · iexact HB_src1
    isplitl [HB_src2]; · iexact HB_src2
    iexists _; iexact HO

end Cert.Experts

end
-- ==== Proof.BodyUse.lean ====
module

public import proofs.«01_k».proof.Proof.Block
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

set_option maxHeartbeats 4000000 in
/-- A group in use that goes on with the expert at hand. -/
theorem runUse (c : Dev nD) (i : grid0.Coords) (arg7 : Memref sig .tc .vmem S2048x128 .i32) (harg7 : arg7.IsWhole)
    (arg11 : Memref sig .tc .vmem S2048x128 .i32) (harg11 : arg11.IsWhole)
    (x : Vec F S2048x128 .i32) (G U : Vec F S2048x512 .bf16) (D : Vec F S512x2048 .bf16)
    (h1 : ¬ k0_cond1 i = 1#1) (K : PUnit → sProp 𝕄) :
        iprop(owns (c : Thread nD τ) arg7 fullShare x ∗ (∃ d, owns (c : Thread nD τ) arg11 fullShare d)
            ∗ word (F := F) c mTf fullShare.right (k0_off1 i) (k0_off1_inb i) (fun _ => 0#32) ∗ word (F := F) c mTv fullShare.right (k0_off1 i) (k0_off1_inb i) (fun _ => 1#32)
            ∗ owns (c : Thread nD τ) bG fullShare G ∗ owns (c : Thread nD τ) bU fullShare U ∗ owns (c : Thread nD τ) bD fullShare D
            ∗ (iprop(owns (c : Thread nD τ) arg7 fullShare x ∗ owns (c : Thread nD τ) arg11 fullShare (outBlk x G U D)
                ∗ word (F := F) c mTf fullShare.right (k0_off1 i) (k0_off1_inb i) (fun _ => 0#32) ∗ word (F := F) c mTv fullShare.right (k0_off1 i) (k0_off1_inb i) (fun _ => 1#32)
                ∗ owns (c : Thread nD τ) bG fullShare G ∗ owns (c : Thread nD τ) bU fullShare U ∗ owns (c : Thread nD τ) bD fullShare D) -∗ K ⟨⟩))
          ⊢ wp frame (wpE (defs₀ (F := F)) Variants.none c none) Set.univ (bodyOn (F := F) i arg7 harg7 arg11 harg11) K := by
  unfold bodyOn
  simp only [cc0_moe_experts_eq_skeleton]; unfold cc0_moe_experts_skel
  unfold owns
  iintro ⟨⟨%f0, %hf0, H0⟩, ⟨%d1, %f1, -, H1⟩, HTf, HTv, ⟨%g, %hg, HG⟩, ⟨%u, %hu, HU⟩, ⟨%d, %hd, HD⟩, Hk⟩
  subst hf0 hg hu hd
  set_option sl_exec.foldHeartbeats 20000 in sl_exec
  sl_step
  iapply Hk
  have eD : runUse.sl.r_1 c d = bD.view.read (Elt F) d := View.readAt_full _ _ _
  have eH : runUse.sl.r c arg7 f0 g u = hid (arg7.view.read (Elt F) f0) (bG.view.read (Elt F) g) (bU.view.read (Elt F) u) := by
    rw [← View.readAt_full bG.view g inb_S2048x512_S2048x512_0_0, ← View.readAt_full bU.view u inb_S2048x512_S2048x512_0_0]; rfl
  isplitl [H0]; · iexists f0; isplitr; · ipureintro; rfl
                  iexact H0
  isplitl [H1]
  · iexists _; isplitr; swap; · iexact H1
    ipureintro
    rw [eH, eD]
    exact read_outL arg11.view f1 _ _ _ _
  isplitl [HTf]; · iexact HTf
  isplitl [HTv]; · iexact HTv
  isplitl [HG]; · iexists g; isplitr; · ipureintro; rfl
                  iexact HG
  isplitl [HU]; · iexists u; isplitr; · ipureintro; rfl
                  iexact HU
  iexists d; isplitr; · ipureintro; rfl
  iexact HD

set_option maxHeartbeats 4000000 in
/-- A group not in use: zeros. -/
theorem runIdle (c : Dev nD) (i : grid0.Coords) (arg7 : Memref sig .tc .vmem S2048x128 .i32) (harg7 : arg7.IsWhole)
    (arg11 : Memref sig .tc .vmem S2048x128 .i32) (harg11 : arg11.IsWhole)
    (h1 : ¬ k0_cond1 i = 1#1) (K : PUnit → sProp 𝕄) :
        iprop((∃ d, owns (c : Thread nD τ) arg11 fullShare d) ∗ word (F := F) c mTf fullShare.right (k0_off1 i) (k0_off1_inb i) (fun _ => 0#32) ∗ word (F := F) c mTv fullShare.right (k0_off1 i) (k0_off1_inb i) (fun _ => 0#32)
            ∗ (iprop(owns (c : Thread nD τ) arg11 fullShare (k0_pay13 : Vec F S2048x128 .i32) ∗ word (F := F) c mTf fullShare.right (k0_off1 i) (k0_off1_inb i) (fun _ => 0#32) ∗ word (F := F) c mTv fullShare.right (k0_off1 i) (k0_off1_inb i) (fun _ => 0#32)) -∗ K ⟨⟩))
          ⊢ wp frame (wpE (defs₀ (F := F)) Variants.none c none) Set.univ (bodyOn (F := F) i arg7 harg7 arg11 harg11) K := by
  unfold bodyOn
  simp only [cc0_moe_experts_eq_skeleton]; unfold cc0_moe_experts_skel
  unfold owns
  iintro ⟨⟨%d1, %f1, -, H1⟩, HTf, HTv, Hk⟩
  set_option sl_exec.foldHeartbeats 20000 in sl_exec
  sl_step
  iapply Hk
  isplitl [H1]
  · iexists _; isplitr; swap; · iexact H1
    ipureintro; exact View.read_writes_full _ _ _ _ _
  isplitl [HTf]; · iexact HTf
  iexact HTv

end Cert.Experts

end
-- ==== Proof.Steps.lean ====
module

public import proofs.«01_k».proof.Proof.Plan
public import proofs.«01_k».proof.Proof.First0Next
public import proofs.«01_k».proof.Proof.First0Last
public import proofs.«01_k».proof.Proof.First1Next
public import proofs.«01_k».proof.Proof.First1Last
public import proofs.«01_k».proof.Proof.StartNext
public import proofs.«01_k».proof.Proof.StartLast
public import proofs.«01_k».proof.Proof.BodyUse
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-- The words of the step, at the half of the tables the body is handed. -/
def wds (c : Dev nD) (i : grid0.Coords) (te tf tv nx ws : BitVec 32) : sProp 𝕄 :=
  iprop(word (F := F) c mTe fullShare.right (k0_off1 i) (k0_off1_inb i) (fun _ => te) ∗ word (F := F) c mTf fullShare.right (k0_off1 i) (k0_off1_inb i) (fun _ => tf)
    ∗ word (F := F) c mTv fullShare.right (k0_off1 i) (k0_off1_inb i) (fun _ => tv) ∗ word (F := F) c mNx fullShare.right (k0_off1 i) (k0_off1_inb i) (fun _ => nx)
    ∗ word (F := F) c mWs fullShare.right (k0_off1 i) (k0_off1_inb i) (fun _ => ws))

set_option maxHeartbeats 1000000 in
theorem first0Next (c : Dev nD) (i : grid0.Coords) (arg7 : Memref sig .tc .vmem S2048x128 .i32) (harg7 : arg7.IsWhole)
    (arg11 : Memref sig .tc .vmem S2048x128 .i32) (harg11 : arg11.IsWhole) (x : Vec F S2048x128 .i32)
    (wg : MBuf (F := F) c mG) (wu : MBuf (F := F) c mU) (wd : MBuf (F := F) c mD)
    (te : Exp) (nx : Exp) (W : Waits sig Unit) (h1 : ¬ k0_cond1 i = 1#1) (K : PUnit → sProp 𝕄) :
    iprop(owns (c : Thread nD τ) arg7 fullShare x ∗ (∃ d, owns (c : Thread nD τ) arg11 fullShare d) ∗ wds (F := F) c i te.1 1#32 1#32 nx.1 0#32
        ∗ AtAny (F := F) c ∗ Fly c wg wu wd 0 te ∗ Idle c wg wu wd 1 ∗ owes (c : Thread nD τ) 0 W
        ∗ (iprop(owns (c : Thread nD τ) arg7 fullShare x ∗ owns (c : Thread nD τ) arg11 fullShare (outE c wg wu wd x te) ∗ wds (F := F) c i te.1 1#32 1#32 nx.1 0#32
            ∗ At c wg wu wd te ∗ Idle c wg wu wd 0 ∗ Fly c wg wu wd 1 nx ∗ (∃ W', owes (c : Thread nD τ) 0 W')) -∗ K ⟨⟩))
      ⊢ wp frame (wpE (defs₀ (F := F)) Variants.none c none) Set.univ (bodyOn (F := F) i arg7 harg7 arg11 harg11) K := by
  unfold Idle Fly AtAny wds At
  iintro ⟨Hx, Ho, ⟨HTe, HTf, HTv, HNx, HWs⟩, ⟨HG, HU, HD⟩, ⟨⟨%fg, %fu, %fd, HB⟩, HoG, HoU, HoD⟩, ⟨HS, HaG, HaU, HaD, HqG, HqU, HqD⟩, HW, Hk⟩
  icases HaG with ⟨%fg', HaG⟩
  icases HaU with ⟨%fu', HaU⟩
  icases HaD with ⟨%fd', HaD⟩
  ihave HqG2 := (lendG c _ nx wg).1 $$ HqG
  ihave HqU2 := (lendU c _ nx wu).1 $$ HqU
  ihave HqD2 := (lendD c _ nx wd).1 $$ HqD
  icases HqG2 with ⟨HqG, HrG⟩
  icases HqU2 with ⟨HqU, HrU⟩
  icases HqD2 with ⟨HqD, HrD⟩
  iapply (runFirst0 c i arg7 harg7 arg11 harg11 x te nx wg wu wd fg fg' fu fu' fd fd' W (qs 0) (qs 1) h1 (chk2 0 nx.1) (chk3 nx) (chk4 0) (chk5 te) (nx_pos nx.2) K)
  isplitl [Hx]; · iexact Hx
  isplitl [Ho]; · iexact Ho
  isplitl [HTe]; · iexact HTe
  isplitl [HTf]; · iexact HTf
  isplitl [HTv]; · iexact HTv
  isplitl [HNx]; · iexact HNx
  isplitl [HWs]; · iexact HWs
  isplitl [HG]; · iexact HG
  isplitl [HU]; · iexact HU
  isplitl [HD]; · iexact HD
  isplitl [HB]; · iexact HB
  isplitl [HS]; · iexact HS
  isplitl [HaG]; · iexact HaG
  isplitl [HaU]; · iexact HaU
  isplitl [HaD]; · iexact HaD
  isplitl [HqG]; · iexact HqG
  isplitl [HqU]; · iexact HqU
  isplitl [HqD]; · iexact HqD
  isplitl [HW]; · iexact HW
  iintro ⟨Hx, Ho, HTe, HTf, HTv, HNx, HWs, HG, HU, HD, HS, HaG, HaU, HaD, HsG, HsU, HsD, HB, HW⟩
  iapply Hk
  isplitl [Hx]; · iexact Hx
  isplitl [Ho]; · iexact Ho
  isplitl [HTe HTf HTv HNx HWs]
  · isplitl [HTe]; · iexact HTe
    isplitl [HTf]; · iexact HTf
    isplitl [HTv]; · iexact HTv
    isplitl [HNx]; · iexact HNx
    iexact HWs
  isplitl [HG HU HD]
  · isplitl [HG]; · iexact HG
    isplitl [HU]; · iexact HU
    iexact HD
  isplitl [HS HaG HaU HaD HsG HsU HsD HoG HoU HoD]
  · isplitl [HS]; · iexact HS
    isplitl [HaG]; · iexact HaG
    isplitl [HaU]; · iexact HaU
    isplitl [HaD]; · iexact HaD
    isplitl [HsG HoG]; · iapply (lendG c _ te wg).2; isplitl [HsG] <;> iassumption
    isplitl [HsU HoU]; · iapply (lendU c _ te wu).2; isplitl [HsU] <;> iassumption
    iapply (lendD c _ te wd).2; isplitl [HsD] <;> iassumption
  isplitl [HB HrG HrU HrD]
  · isplitl [HB]
    · iexists fg', fu', fd'; iexact HB
    isplitl [HrG]; · iexact HrG
    isplitl [HrU]; · iexact HrU
    iexact HrD
  iexact HW

set_option maxHeartbeats 1000000 in
theorem first0Last (c : Dev nD) (i : grid0.Coords) (arg7 : Memref sig .tc .vmem S2048x128 .i32) (harg7 : arg7.IsWhole)
    (arg11 : Memref sig .tc .vmem S2048x128 .i32) (harg11 : arg11.IsWhole) (x : Vec F S2048x128 .i32)
    (wg : MBuf (F := F) c mG) (wu : MBuf (F := F) c mU) (wd : MBuf (F := F) c mD)
    (te : Exp) (nx : BitVec 32) (W : Waits sig Unit) (h1 : ¬ k0_cond1 i = 1#1) (h3 : ¬ k0_cond3 nx = 1#1) (K : PUnit → sProp 𝕄) :
    iprop(owns (c : Thread nD τ) arg7 fullShare x ∗ (∃ d, owns (c : Thread nD τ) arg11 fullShare d) ∗ wds (F := F) c i te.1 1#32 1#32 nx 0#32
        ∗ AtAny (F := F) c ∗ Fly c wg wu wd 0 te ∗ Idle c wg wu wd 1 ∗ owes (c : Thread nD τ) 0 W
        ∗ (iprop(owns (c : Thread nD τ) arg7 fullShare x ∗ owns (c : Thread nD τ) arg11 fullShare (outE c wg wu wd x te) ∗ wds (F := F) c i te.1 1#32 1#32 nx 0#32
            ∗ At c wg wu wd te ∗ Idle c wg wu wd 0 ∗ Idle c wg wu wd 1 ∗ (∃ W', owes (c : Thread nD τ) 0 W')) -∗ K ⟨⟩))
      ⊢ wp frame (wpE (defs₀ (F := F)) Variants.none c none) Set.univ (bodyOn (F := F) i arg7 harg7 arg11 harg11) K := by
  unfold Idle Fly AtAny wds At
  iintro ⟨Hx, Ho, ⟨HTe, HTf, HTv, HNx, HWs⟩, ⟨HG, HU, HD⟩, ⟨⟨%fg, %fu, %fd, HB⟩, HoG, HoU, HoD⟩, ⟨HS, HaG, HaU, HaD, HqG, HqU, HqD⟩, HW, Hk⟩
  iapply (runFirst0Last c i arg7 harg7 arg11 harg11 x te nx wg wu wd fg fg fu fu fd fd W (qs 0) (qs 1) h1 (chk2 0 nx) (chk4 0) (chk5 te) h3 K)
  isplitl [Hx]; · iexact Hx
  isplitl [Ho]; · iexact Ho
  isplitl [HTe]; · iexact HTe
  isplitl [HTf]; · iexact HTf
  isplitl [HTv]; · iexact HTv
  isplitl [HNx]; · iexact HNx
  isplitl [HWs]; · iexact HWs
  isplitl [HG]; · iexact HG
  isplitl [HU]; · iexact HU
  isplitl [HD]; · iexact HD
  isplitl [HB]; · iexact HB
  isplitl [HW]; · iexact HW
  iintro ⟨Hx, Ho, HTe, HTf, HTv, HNx, HWs, HG, HU, HD, HS', HaG', HaU', HaD', HsG, HsU, HsD, HW⟩
  iapply Hk
  isplitl [Hx]; · iexact Hx
  isplitl [Ho]; · iexact Ho
  isplitl [HTe HTf HTv HNx HWs]
  · isplitl [HTe]; · iexact HTe
    isplitl [HTf]; · iexact HTf
    isplitl [HTv]; · iexact HTv
    isplitl [HNx]; · iexact HNx
    iexact HWs
  isplitl [HG HU HD]
  · isplitl [HG]; · iexact HG
    isplitl [HU]; · iexact HU
    iexact HD
  isplitl [HS' HaG' HaU' HaD' HsG HsU HsD HoG HoU HoD]
  · isplitl [HS']; · iexact HS'
    isplitl [HaG']; · iexact HaG'
    isplitl [HaU']; · iexact HaU'
    isplitl [HaD']; · iexact HaD'
    isplitl [HsG HoG]; · iapply (lendG c _ te wg).2; isplitl [HsG] <;> iassumption
    isplitl [HsU HoU]; · iapply (lendU c _ te wu).2; isplitl [HsU] <;> iassumption
    iapply (lendD c _ te wd).2; isplitl [HsD] <;> iassumption
  isplitl [HS HaG HaU HaD HqG HqU HqD]
  · isplitl [HS]; · iexact HS
    isplitl [HaG]; · iexact HaG
    isplitl [HaU]; · iexact HaU
    isplitl [HaD]; · iexact HaD
    isplitl [HqG]; · iexact HqG
    isplitl [HqU]; · iexact HqU
    iexact HqD
  iexact HW

set_option maxHeartbeats 1000000 in
theorem first1Next (c : Dev nD) (i : grid0.Coords) (arg7 : Memref sig .tc .vmem S2048x128 .i32) (harg7 : arg7.IsWhole)
    (arg11 : Memref sig .tc .vmem S2048x128 .i32) (harg11 : arg11.IsWhole) (x : Vec F S2048x128 .i32)
    (wg : MBuf (F := F) c mG) (wu : MBuf (F := F) c mU) (wd : MBuf (F := F) c mD)
    (te : Exp) (nx : Exp) (W : Waits sig Unit) (h1 : ¬ k0_cond1 i = 1#1) (K : PUnit → sProp 𝕄) :
    iprop(owns (c : Thread nD τ) arg7 fullShare x ∗ (∃ d, owns (c : Thread nD τ) arg11 fullShare d) ∗ wds (F := F) c i te.1 1#32 1#32 nx.1 1#32
        ∗ AtAny (F := F) c ∗ Fly c wg wu wd 1 te ∗ Idle c wg wu wd 0 ∗ owes (c : Thread nD τ) 0 W
        ∗ (iprop(owns (c : Thread nD τ) arg7 fullShare x ∗ owns (c : Thread nD τ) arg11 fullShare (outE c wg wu wd x te) ∗ wds (F := F) c i te.1 1#32 1#32 nx.1 1#32
            ∗ At c wg wu wd te ∗ Idle c wg wu wd 1 ∗ Fly c wg wu wd 0 nx ∗ (∃ W', owes (c : Thread nD τ) 0 W')) -∗ K ⟨⟩))
      ⊢ wp frame (wpE (defs₀ (F := F)) Variants.none c none) Set.univ (bodyOn (F := F) i arg7 harg7 arg11 harg11) K := by
  unfold Idle Fly AtAny wds At
  iintro ⟨Hx, Ho, ⟨HTe, HTf, HTv, HNx, HWs⟩, ⟨HG, HU, HD⟩, ⟨⟨%fg, %fu, %fd, HB⟩, HoG, HoU, HoD⟩, ⟨HS, HaG, HaU, HaD, HqG, HqU, HqD⟩, HW, Hk⟩
  icases HaG with ⟨%fg', HaG⟩
  icases HaU with ⟨%fu', HaU⟩
  icases HaD with ⟨%fd', HaD⟩
  ihave HqG2 := (lendG c _ nx wg).1 $$ HqG
  ihave HqU2 := (lendU c _ nx wu).1 $$ HqU
  ihave HqD2 := (lendD c _ nx wd).1 $$ HqD
  icases HqG2 with ⟨HqG, HrG⟩
  icases HqU2 with ⟨HqU, HrU⟩
  icases HqD2 with ⟨HqD, HrD⟩
  iapply (runFirst1 c i arg7 harg7 arg11 harg11 x te nx wg wu wd fg fg' fu fu' fd fd' W (qs 1) (qs 0) h1 (chk2 1 nx.1) (chk3 nx) (chk4 1) (chk5 te) (nx_pos nx.2) K)
  isplitl [Hx]; · iexact Hx
  isplitl [Ho]; · iexact Ho
  isplitl [HTe]; · iexact HTe
  isplitl [HTf]; · iexact HTf
  isplitl [HTv]; · iexact HTv
  isplitl [HNx]; · iexact HNx
  isplitl [HWs]; · iexact HWs
  isplitl [HG]; · iexact HG
  isplitl [HU]; · iexact HU
  isplitl [HD]; · iexact HD
  isplitl [HB]; · iexact HB
  isplitl [HS]; · iexact HS
  isplitl [HaG]; · iexact HaG
  isplitl [HaU]; · iexact HaU
  isplitl [HaD]; · iexact HaD
  isplitl [HqG]; · iexact HqG
  isplitl [HqU]; · iexact HqU
  isplitl [HqD]; · iexact HqD
  isplitl [HW]; · iexact HW
  iintro ⟨Hx, Ho, HTe, HTf, HTv, HNx, HWs, HG, HU, HD, HS, HaG, HaU, HaD, HsG, HsU, HsD, HB, HW⟩
  iapply Hk
  isplitl [Hx]; · iexact Hx
  isplitl [Ho]; · iexact Ho
  isplitl [HTe HTf HTv HNx HWs]
  · isplitl [HTe]; · iexact HTe
    isplitl [HTf]; · iexact HTf
    isplitl [HTv]; · iexact HTv
    isplitl [HNx]; · iexact HNx
    iexact HWs
  isplitl [HG HU HD]
  · isplitl [HG]; · iexact HG
    isplitl [HU]; · iexact HU
    iexact HD
  isplitl [HS HaG HaU HaD HsG HsU HsD HoG HoU HoD]
  · isplitl [HS]; · iexact HS
    isplitl [HaG]; · iexact HaG
    isplitl [HaU]; · iexact HaU
    isplitl [HaD]; · iexact HaD
    isplitl [HsG HoG]; · iapply (lendG c _ te wg).2; isplitl [HsG] <;> iassumption
    isplitl [HsU HoU]; · iapply (lendU c _ te wu).2; isplitl [HsU] <;> iassumption
    iapply (lendD c _ te wd).2; isplitl [HsD] <;> iassumption
  isplitl [HB HrG HrU HrD]
  · isplitl [HB]
    · iexists fg', fu', fd'; iexact HB
    isplitl [HrG]; · iexact HrG
    isplitl [HrU]; · iexact HrU
    iexact HrD
  iexact HW

set_option maxHeartbeats 1000000 in
theorem first1Last (c : Dev nD) (i : grid0.Coords) (arg7 : Memref sig .tc .vmem S2048x128 .i32) (harg7 : arg7.IsWhole)
    (arg11 : Memref sig .tc .vmem S2048x128 .i32) (harg11 : arg11.IsWhole) (x : Vec F S2048x128 .i32)
    (wg : MBuf (F := F) c mG) (wu : MBuf (F := F) c mU) (wd : MBuf (F := F) c mD)
    (te : Exp) (nx : BitVec 32) (W : Waits sig Unit) (h1 : ¬ k0_cond1 i = 1#1) (h3 : ¬ k0_cond3 nx = 1#1) (K : PUnit → sProp 𝕄) :
    iprop(owns (c : Thread nD τ) arg7 fullShare x ∗ (∃ d, owns (c : Thread nD τ) arg11 fullShare d) ∗ wds (F := F) c i te.1 1#32 1#32 nx 1#32
        ∗ AtAny (F := F) c ∗ Fly c wg wu wd 1 te ∗ Idle c wg wu wd 0 ∗ owes (c : Thread nD τ) 0 W
        ∗ (iprop(owns (c : Thread nD τ) arg7 fullShare x ∗ owns (c : Thread nD τ) arg11 fullShare (outE c wg wu wd x te) ∗ wds (F := F) c i te.1 1#32 1#32 nx 1#32
            ∗ At c wg wu wd te ∗ Idle c wg wu wd 1 ∗ Idle c wg wu wd 0 ∗ (∃ W', owes (c : Thread nD τ) 0 W')) -∗ K ⟨⟩))
      ⊢ wp frame (wpE (defs₀ (F := F)) Variants.none c none) Set.univ (bodyOn (F := F) i arg7 harg7 arg11 harg11) K := by
  unfold Idle Fly AtAny wds At
  iintro ⟨Hx, Ho, ⟨HTe, HTf, HTv, HNx, HWs⟩, ⟨HG, HU, HD⟩, ⟨⟨%fg, %fu, %fd, HB⟩, HoG, HoU, HoD⟩, ⟨HS, HaG, HaU, HaD, HqG, HqU, HqD⟩, HW, Hk⟩
  iapply (runFirst1Last c i arg7 harg7 arg11 harg11 x te nx wg wu wd fg fg fu fu fd fd W (qs 1) (qs 0) h1 (chk2 1 nx) (chk4 1) (chk5 te) h3 K)
  isplitl [Hx]; · iexact Hx
  isplitl [Ho]; · iexact Ho
  isplitl [HTe]; · iexact HTe
  isplitl [HTf]; · iexact HTf
  isplitl [HTv]; · iexact HTv
  isplitl [HNx]; · iexact HNx
  isplitl [HWs]; · iexact HWs
  isplitl [HG]; · iexact HG
  isplitl [HU]; · iexact HU
  isplitl [HD]; · iexact HD
  isplitl [HB]; · iexact HB
  isplitl [HW]; · iexact HW
  iintro ⟨Hx, Ho, HTe, HTf, HTv, HNx, HWs, HG, HU, HD, HS', HaG', HaU', HaD', HsG, HsU, HsD, HW⟩
  iapply Hk
  isplitl [Hx]; · iexact Hx
  isplitl [Ho]; · iexact Ho
  isplitl [HTe HTf HTv HNx HWs]
  · isplitl [HTe]; · iexact HTe
    isplitl [HTf]; · iexact HTf
    isplitl [HTv]; · iexact HTv
    isplitl [HNx]; · iexact HNx
    iexact HWs
  isplitl [HG HU HD]
  · isplitl [HG]; · iexact HG
    isplitl [HU]; · iexact HU
    iexact HD
  isplitl [HS' HaG' HaU' HaD' HsG HsU HsD HoG HoU HoD]
  · isplitl [HS']; · iexact HS'
    isplitl [HaG']; · iexact HaG'
    isplitl [HaU']; · iexact HaU'
    isplitl [HaD']; · iexact HaD'
    isplitl [HsG HoG]; · iapply (lendG c _ te wg).2; isplitl [HsG] <;> iassumption
    isplitl [HsU HoU]; · iapply (lendU c _ te wu).2; isplitl [HsU] <;> iassumption
    iapply (lendD c _ te wd).2; isplitl [HsD] <;> iassumption
  isplitl [HS HaG HaU HaD HqG HqU HqD]
  · isplitl [HS]; · iexact HS
    isplitl [HaG]; · iexact HaG
    isplitl [HaU]; · iexact HaU
    isplitl [HaD]; · iexact HaD
    isplitl [HqG]; · iexact HqG
    isplitl [HqU]; · iexact HqU
    iexact HqD
  iexact HW

theorem word_share (c : Dev nD) (M : Memref sig .tc .smem S96 .i32) (off off' : Fin 1 → ℕ) (h : ∀ a, off a + S1.size a ≤ S96.size a) (h' : ∀ a, off' a + S1.size a ≤ S96.size a)
    (e : off = off') (w : M.view.ty.Contents (Elt F)) :
    (word c M fullShare.right off h w : sProp 𝕄) ⊣⊢ iprop(word c M fullShare.right.left off' h' w ∗ word c M fullShare.right.right off h w) := by
  subst e
  exact pointsTo_share (PosShare.mem_left_op_right _)

set_option maxHeartbeats 1000000 in
theorem startNext (c : Dev nD) (i : grid0.Coords) (arg7 : Memref sig .tc .vmem S2048x128 .i32) (harg7 : arg7.IsWhole)
    (arg11 : Memref sig .tc .vmem S2048x128 .i32) (harg11 : arg11.IsWhole) (x : Vec F S2048x128 .i32)
    (wg : MBuf (F := F) c mG) (wu : MBuf (F := F) c mU) (wd : MBuf (F := F) c mD)
    (te : Exp) (nx : Exp) (W : Waits sig Unit) (h1 : k0_cond1 i = 1#1) (h0 : k0_off1 i = ![0]) (K : PUnit → sProp 𝕄) :
    iprop(owns (c : Thread nD τ) arg7 fullShare x ∗ (∃ d, owns (c : Thread nD τ) arg11 fullShare d) ∗ wds (F := F) c i te.1 1#32 1#32 nx.1 0#32
        ∗ AtAny (F := F) c ∗ Idle c wg wu wd 0 ∗ Idle c wg wu wd 1 ∗ owes (c : Thread nD τ) 0 W
        ∗ (iprop(owns (c : Thread nD τ) arg7 fullShare x ∗ owns (c : Thread nD τ) arg11 fullShare (outE c wg wu wd x te) ∗ wds (F := F) c i te.1 1#32 1#32 nx.1 0#32
            ∗ At c wg wu wd te ∗ Idle c wg wu wd 0 ∗ Fly c wg wu wd 1 nx ∗ (∃ W', owes (c : Thread nD τ) 0 W')) -∗ K ⟨⟩))
      ⊢ wp frame (wpE (defs₀ (F := F)) Variants.none c none) Set.univ (bodyOn (F := F) i arg7 harg7 arg11 harg11) K := by
  unfold Idle Fly AtAny wds At
  iintro ⟨Hx, Ho, ⟨HTe, HTf, HTv, HNx, HWs⟩, ⟨HG, HU, HD⟩, ⟨HS', HaG', HaU', HaD', HpG, HpU, HpD⟩, ⟨HS, HaG, HaU, HaD, HqG, HqU, HqD⟩, HW, Hk⟩
  ihave HTe2 := (word_share c mTe _ _ _ te0_inb h0 _).1 $$ HTe
  icases HTe2 with ⟨HTe0, HTe⟩
  icases HaG' with ⟨%fg, HaG'⟩
  icases HaU' with ⟨%fu, HaU'⟩
  icases HaD' with ⟨%fd, HaD'⟩
  ihave HpG2 := (lendG c _ te wg).1 $$ HpG
  ihave HpU2 := (lendU c _ te wu).1 $$ HpU
  ihave HpD2 := (lendD c _ te wd).1 $$ HpD
  icases HpG2 with ⟨HsG, HoG⟩
  icases HpU2 with ⟨HsU, HoU⟩
  icases HpD2 with ⟨HsD, HoD⟩
  icases HaG with ⟨%fg', HaG⟩
  icases HaU with ⟨%fu', HaU⟩
  icases HaD with ⟨%fd', HaD⟩
  ihave HqG2 := (lendG c _ nx wg).1 $$ HqG
  ihave HqU2 := (lendU c _ nx wu).1 $$ HqU
  ihave HqD2 := (lendD c _ nx wd).1 $$ HqD
  icases HqG2 with ⟨HqG, HrG⟩
  icases HqU2 with ⟨HqU, HrU⟩
  icases HqD2 with ⟨HqD, HrD⟩
  iapply (runStart c i arg7 harg7 arg11 harg11 x te nx wg wu wd fg fg' fu fu' fd fd' W (qs 0) (qs 1) fullShare.right.left fullShare.right.right h1 (chk1 i te) (chk2 0 nx.1) (chk3 nx) (chk4 0) (chk5 te) (nx_pos nx.2) K)
  isplitl [Hx]; · iexact Hx
  isplitl [Ho]; · iexact Ho
  isplitl [HTe0]; · iexact HTe0
  isplitl [HTe]; · iexact HTe
  isplitl [HTf]; · iexact HTf
  isplitl [HTv]; · iexact HTv
  isplitl [HNx]; · iexact HNx
  isplitl [HWs]; · iexact HWs
  isplitl [HG]; · iexact HG
  isplitl [HU]; · iexact HU
  isplitl [HD]; · iexact HD
  isplitl [HS']; · iexact HS'
  isplitl [HaG']; · iexact HaG'
  isplitl [HaU']; · iexact HaU'
  isplitl [HaD']; · iexact HaD'
  isplitl [HsG]; · iexact HsG
  isplitl [HsU]; · iexact HsU
  isplitl [HsD]; · iexact HsD
  isplitl [HS]; · iexact HS
  isplitl [HaG]; · iexact HaG
  isplitl [HaU]; · iexact HaU
  isplitl [HaD]; · iexact HaD
  isplitl [HqG]; · iexact HqG
  isplitl [HqU]; · iexact HqU
  isplitl [HqD]; · iexact HqD
  isplitl [HW]; · iexact HW
  iintro ⟨Hx, Ho, HTe0, HTe, HTf, HTv, HNx, HWs, HG, HU, HD, HS', HaG', HaU', HaD', HsG, HsU, HsD, HB, HW⟩
  iapply Hk
  isplitl [Hx]; · iexact Hx
  isplitl [Ho]; · iexact Ho
  isplitl [HTe0 HTe HTf HTv HNx HWs]
  · isplitl [HTe0 HTe]
    · iapply (word_share c mTe _ _ _ te0_inb h0 _).2
      isplitl [HTe0] <;> iassumption
    isplitl [HTf]; · iexact HTf
    isplitl [HTv]; · iexact HTv
    isplitl [HNx]; · iexact HNx
    iexact HWs
  isplitl [HG HU HD]
  · isplitl [HG]; · iexact HG
    isplitl [HU]; · iexact HU
    iexact HD
  isplitl [HS' HaG' HaU' HaD' HsG HsU HsD HoG HoU HoD]
  · isplitl [HS']; · iexact HS'
    isplitl [HaG']; · iexact HaG'
    isplitl [HaU']; · iexact HaU'
    isplitl [HaD']; · iexact HaD'
    isplitl [HsG HoG]; · iapply (lendG c _ te wg).2; isplitl [HsG] <;> iassumption
    isplitl [HsU HoU]; · iapply (lendU c _ te wu).2; isplitl [HsU] <;> iassumption
    iapply (lendD c _ te wd).2; isplitl [HsD] <;> iassumption
  isplitl [HB HrG HrU HrD]
  · isplitl [HB]
    · iexists fg', fu', fd'; iexact HB
    isplitl [HrG]; · iexact HrG
    isplitl [HrU]; · iexact HrU
    iexact HrD
  iexact HW

set_option maxHeartbeats 1000000 in
theorem startLast (c : Dev nD) (i : grid0.Coords) (arg7 : Memref sig .tc .vmem S2048x128 .i32) (harg7 : arg7.IsWhole)
    (arg11 : Memref sig .tc .vmem S2048x128 .i32) (harg11 : arg11.IsWhole) (x : Vec F S2048x128 .i32)
    (wg : MBuf (F := F) c mG) (wu : MBuf (F := F) c mU) (wd : MBuf (F := F) c mD)
    (te : Exp) (nx : BitVec 32) (W : Waits sig Unit) (h1 : k0_cond1 i = 1#1) (h0 : k0_off1 i = ![0]) (h3 : ¬ k0_cond3 nx = 1#1) (K : PUnit → sProp 𝕄) :
    iprop(owns (c : Thread nD τ) arg7 fullShare x ∗ (∃ d, owns (c : Thread nD τ) arg11 fullShare d) ∗ wds (F := F) c i te.1 1#32 1#32 nx 0#32
        ∗ AtAny (F := F) c ∗ Idle c wg wu wd 0 ∗ Idle c wg wu wd 1 ∗ owes (c : Thread nD τ) 0 W
        ∗ (iprop(owns (c : Thread nD τ) arg7 fullShare x ∗ owns (c : Thread nD τ) arg11 fullShare (outE c wg wu wd x te) ∗ wds (F := F) c i te.1 1#32 1#32 nx 0#32
            ∗ At c wg wu wd te ∗ Idle c wg wu wd 0 ∗ Idle c wg wu wd 1 ∗ (∃ W', owes (c : Thread nD τ) 0 W')) -∗ K ⟨⟩))
      ⊢ wp frame (wpE (defs₀ (F := F)) Variants.none c none) Set.univ (bodyOn (F := F) i arg7 harg7 arg11 harg11) K := by
  unfold Idle AtAny wds At
  iintro ⟨Hx, Ho, ⟨HTe, HTf, HTv, HNx, HWs⟩, ⟨HG, HU, HD⟩, ⟨HS', HaG', HaU', HaD', HpG, HpU, HpD⟩, ⟨HS, HaG, HaU, HaD, HqG, HqU, HqD⟩, HW, Hk⟩
  ihave HTe2 := (word_share c mTe _ _ _ te0_inb h0 _).1 $$ HTe
  icases HTe2 with ⟨HTe0, HTe⟩
  icases HaG' with ⟨%fg, HaG'⟩
  icases HaU' with ⟨%fu, HaU'⟩
  icases HaD' with ⟨%fd, HaD'⟩
  ihave HpG2 := (lendG c _ te wg).1 $$ HpG
  ihave HpU2 := (lendU c _ te wu).1 $$ HpU
  ihave HpD2 := (lendD c _ te wd).1 $$ HpD
  icases HpG2 with ⟨HsG, HoG⟩
  icases HpU2 with ⟨HsU, HoU⟩
  icases HpD2 with ⟨HsD, HoD⟩
  iapply (runStartLast c i arg7 harg7 arg11 harg11 x te nx wg wu wd fg fg fu fu fd fd W (qs 0) (qs 1) fullShare.right.left fullShare.right.right h1 (chk1 i te) (chk2 0 nx) (chk4 0) (chk5 te) h3 K)
  isplitl [Hx]; · iexact Hx
  isplitl [Ho]; · iexact Ho
  isplitl [HTe0]; · iexact HTe0
  isplitl [HTe]; · iexact HTe
  isplitl [HTf]; · iexact HTf
  isplitl [HTv]; · iexact HTv
  isplitl [HNx]; · iexact HNx
  isplitl [HWs]; · iexact HWs
  isplitl [HG]; · iexact HG
  isplitl [HU]; · iexact HU
  isplitl [HD]; · iexact HD
  isplitl [HS']; · iexact HS'
  isplitl [HaG']; · iexact HaG'
  isplitl [HaU']; · iexact HaU'
  isplitl [HaD']; · iexact HaD'
  isplitl [HsG]; · iexact HsG
  isplitl [HsU]; · iexact HsU
  isplitl [HsD]; · iexact HsD
  isplitl [HW]; · iexact HW
  iintro ⟨Hx, Ho, HTe0, HTe, HTf, HTv, HNx, HWs, HG, HU, HD, HS', HaG', HaU', HaD', HsG, HsU, HsD, HW⟩
  iapply Hk
  isplitl [Hx]; · iexact Hx
  isplitl [Ho]; · iexact Ho
  isplitl [HTe0 HTe HTf HTv HNx HWs]
  · isplitl [HTe0 HTe]
    · iapply (word_share c mTe _ _ _ te0_inb h0 _).2
      isplitl [HTe0] <;> iassumption
    isplitl [HTf]; · iexact HTf
    isplitl [HTv]; · iexact HTv
    isplitl [HNx]; · iexact HNx
    iexact HWs
  isplitl [HG HU HD]
  · isplitl [HG]; · iexact HG
    isplitl [HU]; · iexact HU
    iexact HD
  isplitl [HS' HaG' HaU' HaD' HsG HsU HsD HoG HoU HoD]
  · isplitl [HS']; · iexact HS'
    isplitl [HaG']; · iexact HaG'
    isplitl [HaU']; · iexact HaU'
    isplitl [HaD']; · iexact HaD'
    isplitl [HsG HoG]; · iapply (lendG c _ te wg).2; isplitl [HsG] <;> iassumption
    isplitl [HsU HoU]; · iapply (lendU c _ te wu).2; isplitl [HsU] <;> iassumption
    iapply (lendD c _ te wd).2; isplitl [HsD] <;> iassumption
  isplitl [HS HaG HaU HaD HqG HqU HqD]
  · isplitl [HS]; · iexact HS
    isplitl [HaG]; · iexact HaG
    isplitl [HaU]; · iexact HaU
    isplitl [HaD]; · iexact HaD
    isplitl [HqG]; · iexact HqG
    isplitl [HqU]; · iexact HqU
    iexact HqD
  iexact HW

end Cert.Experts

end
-- ==== Proof.Body.lean ====
module

public import proofs.«01_k».proof.Proof.Steps
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-! ## The tables, their words lent -/

section Body
variable (c : Dev nD) (te tf tv ti nx ws : S96.Idx → BitVec 32)
variable (wg : MBuf (F := F) c mG) (wu : MBuf (F := F) c mU) (wd : MBuf (F := F) c mD)

/-- The six tables at the half of them the body is handed. -/
def Tabs : sProp 𝕄 :=
  iprop(tab (F := F) c mTe te ∗ tab (F := F) c mTf tf ∗ tab (F := F) c mTv tv ∗ tab (F := F) c mTi ti ∗ tab (F := F) c mNx nx ∗ tab (F := F) c mWs ws)

theorem word_lend (M : Memref sig .tc .smem S96 .i32) (f : TabBuf (F := F) c M) (w : BitVec 32) (off : Fin 1 → ℕ) (h : ∀ a, off a + S1.size a ≤ S96.size a)
    (g : M.view.ty.Contents (Elt F))
    (hf : ∀ i ∈ (cellAt M off h).view.set, f i = g i) :
    (tab c M f : sProp 𝕄) ⊢ iprop(word c M fullShare.right off h g ∗ (word c M fullShare.right off h g -∗ tab c M f)) := by
  have e : (word c M fullShare.right off h g : sProp 𝕄) = (M.view.loc (c : Thread nD τ) ↦[(cellAt M off h).view.set]{fullShare.right} f) := (pointsTo_congr hf).symm
  rw [e]
  refine (pointsTo_split_subset (Finset.subset_univ (cellAt M off h).view.set)).1.trans ?_
  iintro ⟨H, Hr⟩
  isplitl [H]; · iexact H
  iintro H
  iapply (pointsTo_split_subset (Finset.subset_univ (cellAt M off h).view.set)).2
  isplitl [H] <;> iassumption

theorem tabs_lend (t : Fin grid0.N) :
    (Tabs (F := F) c te tf tv ti nx ws : sProp 𝕄)
      ⊢ iprop(wds (F := F) c (grid0.coords t) (te (ix t.val)) (tf (ix t.val)) (tv (ix t.val)) (nx (ix t.val)) (ws (ix t.val))
          ∗ (wds (F := F) c (grid0.coords t) (te (ix t.val)) (tf (ix t.val)) (tv (ix t.val)) (nx (ix t.val)) (ws (ix t.val)) -∗ Tabs (F := F) c te tf tv ti nx ws)) := by
  unfold Tabs wds
  iintro ⟨H0, H1, H2, H3, H4, H5⟩
  ihave J0 := (word_lend (F := F) c mTe te (te (ix t.val)) (k0_off1 (grid0.coords t)) (k0_off1_inb _) (fun _ => te (ix t.val)) (by rw [show (cellAt mTe (k0_off1 (grid0.coords t)) (k0_off1_inb _)).view.set = _ from View.set_slice_whole _ _]; exact off_eq te _ _ t.val (off1_at t))) $$ H0
  icases J0 with ⟨H0, K0⟩
  ihave J1 := (word_lend (F := F) c mTf tf (tf (ix t.val)) (k0_off1 (grid0.coords t)) (k0_off1_inb _) (fun _ => tf (ix t.val)) (by rw [show (cellAt mTf (k0_off1 (grid0.coords t)) (k0_off1_inb _)).view.set = _ from View.set_slice_whole _ _]; exact off_eq tf _ _ t.val (off1_at t))) $$ H1
  icases J1 with ⟨H1, K1⟩
  ihave J2 := (word_lend (F := F) c mTv tv (tv (ix t.val)) (k0_off1 (grid0.coords t)) (k0_off1_inb _) (fun _ => tv (ix t.val)) (by rw [show (cellAt mTv (k0_off1 (grid0.coords t)) (k0_off1_inb _)).view.set = _ from View.set_slice_whole _ _]; exact off_eq tv _ _ t.val (off1_at t))) $$ H2
  icases J2 with ⟨H2, K2⟩
  ihave J4 := (word_lend (F := F) c mNx nx (nx (ix t.val)) (k0_off1 (grid0.coords t)) (k0_off1_inb _) (fun _ => nx (ix t.val)) (by rw [show (cellAt mNx (k0_off1 (grid0.coords t)) (k0_off1_inb _)).view.set = _ from View.set_slice_whole _ _]; exact off_eq nx _ _ t.val (off1_at t))) $$ H4
  icases J4 with ⟨H4, K4⟩
  ihave J5 := (word_lend (F := F) c mWs ws (ws (ix t.val)) (k0_off1 (grid0.coords t)) (k0_off1_inb _) (fun _ => ws (ix t.val)) (by rw [show (cellAt mWs (k0_off1 (grid0.coords t)) (k0_off1_inb _)).view.set = _ from View.set_slice_whole _ _]; exact off_eq ws _ _ t.val (off1_at t))) $$ H5
  icases J5 with ⟨H5, K5⟩
  isplitl [H0 H1 H2 H4 H5]
  · isplitl [H0]; · iexact H0
    isplitl [H1]; · iexact H1
    isplitl [H2]; · iexact H2
    isplitl [H4]; · iexact H4
    iexact H5
  iintro ⟨H0, H1, H2, H4, H5⟩
  isplitl [H0 K0]; · iapply K0; iexact H0
  isplitl [H1 K1]; · iapply K1; iexact H1
  isplitl [H2 K2]; · iapply K2; iexact H2
  isplitl [H3]; · iexact H3
  isplitl [H4 K4]; · iapply K4; iexact H4
  iapply K5; iexact H5

/-! ## The state between groups -/

/-- The expert a word names. -/
def ex (w : BitVec 32) : Exp := if h : w.toNat < 32 then ⟨w, h⟩ else ⟨0#32, by decide⟩
theorem ex_val {w : BitVec 32} (h : w.toNat < 32) : (ex w).1 = w := by unfold ex; rw [dif_pos h]
/-- The slot a word names. -/
def sl (w : BitVec 32) : Fin 2 := if w = 1#32 then 1 else 0
theorem sl0 : sl 0#32 = 0 := by decide
theorem sl1 : sl 1#32 = 1 := by decide

/-- After a group with next expert `n` and slot `s`: the next expert's weights on their way into the other slot. -/
def Ahead (n s : BitVec 32) : sProp 𝕄 :=
  if n.toNat < 32 then iprop(Fly c wg wu wd (1 - sl s) (ex n) ∗ Idle c wg wu wd (sl s)) else iprop(Idle c wg wu wd 0 ∗ Idle c wg wu wd 1)

/-- The state before group `j`. -/
def St : ℕ → sProp 𝕄
  | 0 => iprop(AtAny (F := F) c ∗ Idle c wg wu wd 0 ∗ Idle c wg wu wd 1)
  | j + 1 => iprop(At c wg wu wd (ex (te (ix j))) ∗ Ahead c wg wu wd (nx (ix j)) (ws (ix j)))

theorem St_zero : (St c te nx ws wg wu wd 0 : sProp 𝕄) = iprop(AtAny (F := F) c ∗ Idle c wg wu wd 0 ∗ Idle c wg wu wd 1) := rfl
theorem St_succ (j : ℕ) : (St c te nx ws wg wu wd (j + 1) : sProp 𝕄) = iprop(At c wg wu wd (ex (te (ix j))) ∗ Ahead c wg wu wd (nx (ix j)) (ws (ix j))) := rfl

theorem St_zero_open : (St c te nx ws wg wu wd 0 : sProp 𝕄) ⊢ iprop(AtAny (F := F) c ∗ Idle c wg wu wd 0 ∗ Idle c wg wu wd 1) := .rfl
theorem St_open (j : ℕ) : (St c te nx ws wg wu wd (j + 1) : sProp 𝕄) ⊢ iprop(At c wg wu wd (ex (te (ix j))) ∗ Ahead c wg wu wd (nx (ix j)) (ws (ix j))) := .rfl
theorem St_shut (j : ℕ) : iprop(At c wg wu wd (ex (te (ix j))) ∗ Ahead c wg wu wd (nx (ix j)) (ws (ix j))) ⊢ (St c te nx ws wg wu wd (j + 1) : sProp 𝕄) := .rfl
/-- What group `j` leaves in its block of the result, from its block `x` of the tokens. -/
def outAt (x : Vec F S2048x128 .i32) (j : ℕ) : Vec F S2048x128 .i32 :=
  if tv (ix j) = 1#32 then outE c wg wu wd x (ex (te (ix j))) else k0_pay13

theorem ahead_next {n s : BitVec 32} (h : n.toNat < 32) : (Ahead c wg wu wd n s : sProp 𝕄) = iprop(Fly c wg wu wd (1 - sl s) (ex n) ∗ Idle c wg wu wd (sl s)) := by
  unfold Ahead; rw [if_pos h]
theorem ahead_last {s : BitVec 32} : (Ahead c wg wu wd 4294967295#32 s : sProp 𝕄) = iprop(Idle c wg wu wd 0 ∗ Idle c wg wu wd 1) := by
  unfold Ahead; rw [if_neg (by decide)]

theorem ahead_open {n s : BitVec 32} (h : n.toNat < 32) : (Ahead c wg wu wd n s : sProp 𝕄) ⊢ iprop(Fly c wg wu wd (1 - sl s) (ex n) ∗ Idle c wg wu wd (sl s)) := by
  rw [ahead_next c wg wu wd h]

set_option maxHeartbeats 1000000 in
theorem body_step (hP : Plan te tf tv ti nx ws) (t : Fin grid0.N) (arg7 : Memref sig .tc .vmem S2048x128 .i32) (harg7 : arg7.IsWhole)
    (arg11 : Memref sig .tc .vmem S2048x128 .i32) (harg11 : arg11.IsWhole) (x : Vec F S2048x128 .i32) (W : Waits sig Unit) (K : PUnit → sProp 𝕄) :
    iprop(owns (c : Thread nD τ) arg7 fullShare x ∗ (∃ d, owns (c : Thread nD τ) arg11 fullShare d) ∗ Tabs (F := F) c te tf tv ti nx ws
        ∗ St c te nx ws wg wu wd t.val ∗ owes (c : Thread nD τ) 0 W
        ∗ (iprop(owns (c : Thread nD τ) arg7 fullShare x ∗ owns (c : Thread nD τ) arg11 fullShare (outAt c te tv wg wu wd x t.val) ∗ Tabs (F := F) c te tf tv ti nx ws
            ∗ St c te nx ws wg wu wd (t.val + 1) ∗ (∃ W', owes (c : Thread nD τ) 0 W')) -∗ K ⟨⟩))
      ⊢ wp frame (wpE (defs₀ (F := F)) Variants.none c none) Set.univ (bodyOn (F := F) (grid0.coords t) arg7 harg7 arg11 harg11) K := by
  have ht : t.val < 96 := N_0 ▸ t.isLt
  iintro ⟨Hx, Ho, HT, HS, HW, Hk⟩
  ihave HT2 := (tabs_lend c te tf tv ti nx ws t) $$ HT
  icases HT2 with ⟨HT, HTk⟩
  obtain ⟨j, hj⟩ : ∃ j, t.val = j := ⟨_, rfl⟩
  rw [hj] at ht ⊢
  cases j with
  | zero =>
    have h1 := (cond1_at t).2 hj
    have h0 : k0_off1 (grid0.coords t) = ![0] := by rw [off1_at, hj]
    obtain ⟨htf, hws⟩ := hP.first
    have htv : tv (ix 0) = 1#32 := (hP.used 0 ht).resolve_left (by rw [htf]; decide)
    have hte := hP.te_lt 0 ht
    unfold outAt
    rw [St_succ, if_pos htv, htf, htv, hws]
    ihave HS1 := (St_zero_open c te nx ws wg wu wd) $$ HS
    icases HS1 with ⟨HA, HI0, HI1⟩
    rcases hP.nx_lt 0 ht with hn | hn
    · rw [ahead_next c wg wu wd hn, sl0]
      have E := startNext c (grid0.coords t) arg7 harg7 arg11 harg11 x wg wu wd (ex (te (ix 0))) (ex (nx (ix 0))) W h1 h0 K
      rw [ex_val hte, ex_val hn] at E
      iapply E
      isplitl [Hx]; · iexact Hx
      isplitl [Ho]; · iexact Ho
      isplitl [HT]; · iexact HT
      isplitl [HA]; · iexact HA
      isplitl [HI0]; · iexact HI0
      isplitl [HI1]; · iexact HI1
      isplitl [HW]; · iexact HW
      iintro ⟨Hx, Ho, HT, HA, HI, HF, HW⟩
      iapply Hk
      isplitl [Hx]; · iexact Hx
      isplitl [Ho]; · iexact Ho
      isplitl [HT HTk]; · iapply HTk; iexact HT
      isplitr [HW]
      · isplitl [HA]; · iexact HA
        isplitl [HF]; · iexact HF
        iexact HI
      iexact HW
    · rw [hn, ahead_last]
      have E := startLast c (grid0.coords t) arg7 harg7 arg11 harg11 x wg wu wd (ex (te (ix 0))) 4294967295#32 W h1 h0 nx_neg K
      rw [ex_val hte] at E
      iapply E
      isplitl [Hx]; · iexact Hx
      isplitl [Ho]; · iexact Ho
      isplitl [HT]; · iexact HT
      isplitl [HA]; · iexact HA
      isplitl [HI0]; · iexact HI0
      isplitl [HI1]; · iexact HI1
      isplitl [HW]; · iexact HW
      iintro ⟨Hx, Ho, HT, HA, HI, HF, HW⟩
      iapply Hk
      isplitl [Hx]; · iexact Hx
      isplitl [Ho]; · iexact Ho
      isplitl [HT HTk]; · iapply HTk; iexact HT
      isplitr [HW]
      · isplitl [HA]; · iexact HA
        isplitl [HI]; · iexact HI
        iexact HF
      iexact HW
  | succ j =>
    have h1 : ¬ k0_cond1 (grid0.coords t) = 1#1 := fun h => absurd ((cond1_at t).1 h) (by omega)
    have hte := hP.te_lt (j + 1) ht
    rcases hP.step j (by omega) with ⟨htf, e1, e2, e3⟩ | ⟨htf, e1, e2⟩
    · rcases hP.tv01 (j + 1) ht with htv | htv
      · unfold outAt
        rw [if_neg (by rw [htv]; decide)]
        rw [show (St c te nx ws wg wu wd (j + 1 + 1) : sProp 𝕄) = St c te nx ws wg wu wd (j + 1) from by rw [St_succ, St_succ, e1, e2, e3]]
        rw [htf, htv]
        unfold wds
        icases HT with ⟨HTe, HTf, HTv, HNx, HWs⟩
        iapply (runIdle c (grid0.coords t) arg7 harg7 arg11 harg11 h1 K)
        isplitl [Ho]; · iexact Ho
        isplitl [HTf]; · iexact HTf
        isplitl [HTv]; · iexact HTv
        iintro ⟨Ho, HTf, HTv⟩
        iapply Hk
        isplitl [Hx]; · iexact Hx
        isplitl [Ho]; · iexact Ho
        isplitl [HTk HTe HTf HTv HNx HWs]
        · iapply HTk
          isplitl [HTe]; · iexact HTe
          isplitl [HTf]; · iexact HTf
          isplitl [HTv]; · iexact HTv
          isplitl [HNx]; · iexact HNx
          iexact HWs
        isplitl [HS]; · iexact HS
        iexists W; iexact HW
      · unfold outAt
        rw [if_pos htv]
        rw [show (St c te nx ws wg wu wd (j + 1 + 1) : sProp 𝕄) = St c te nx ws wg wu wd (j + 1) from by rw [St_succ, St_succ, e1, e2, e3]]
        rw [htf, htv, e1]
        unfold wds
        ihave HS1 := (St_open c te nx ws wg wu wd j) $$ HS
        unfold At
        icases HT with ⟨HTe, HTf, HTv, HNx, HWs⟩
        icases HS1 with ⟨⟨HG, HU, HD⟩, HS⟩
        iapply (runUse c (grid0.coords t) arg7 harg7 arg11 harg11 x _ _ _ h1 K)
        isplitl [Hx]; · iexact Hx
        isplitl [Ho]; · iexact Ho
        isplitl [HTf]; · iexact HTf
        isplitl [HTv]; · iexact HTv
        isplitl [HG]; · iexact HG
        isplitl [HU]; · iexact HU
        isplitl [HD]; · iexact HD
        iintro ⟨Hx, Ho, HTf, HTv, HG, HU, HD⟩
        iapply Hk
        isplitl [Hx]; · iexact Hx
        isplitl [Ho]; · iexact Ho
        isplitl [HTk HTe HTf HTv HNx HWs]
        · iapply HTk
          isplitl [HTe]; · iexact HTe
          isplitl [HTf]; · iexact HTf
          isplitl [HTv]; · iexact HTv
          isplitl [HNx]; · iexact HNx
          iexact HWs
        isplitl [HG HU HD HS]
        · iapply (St_shut c te nx ws wg wu wd j)
          unfold At
          isplitl [HG HU HD]
          · isplitl [HG]; · iexact HG
            isplitl [HU]; · iexact HU
            iexact HD
          iexact HS
        iexists W; iexact HW
    · have htv : tv (ix (j + 1)) = 1#32 := (hP.used (j + 1) ht).resolve_left (by rw [htf]; decide)
      unfold outAt
      rw [if_pos htv]
      have hnj : (nx (ix j)).toNat < 32 := e1 ▸ hte
      rw [St_succ c te nx ws wg wu wd (j + 1), htf, htv]
      ihave HS1 := (St_open c te nx ws wg wu wd j) $$ HS
      icases HS1 with ⟨HA0, HS2⟩
      ihave HS3 := (ahead_open c wg wu wd hnj) $$ HS2
      rw [← e1]
      icases HS3 with ⟨HF, HI⟩
      ihave HA := (At_any c wg wu wd _) $$ HA0
      rcases hP.ws01 j (by omega) with hw | hw
      · rw [hw, show 1#32 - 0#32 = 1#32 from by decide] at e2
        rw [hw, e2]
        rw [sl0]
        rcases hP.nx_lt (j + 1) ht with hn | hn
        · rw [ahead_next c wg wu wd hn, sl1]
          have E := first1Next c (grid0.coords t) arg7 harg7 arg11 harg11 x wg wu wd (ex (te (ix (j + 1)))) (ex (nx (ix (j + 1)))) W h1 K
          rw [ex_val hte, ex_val hn] at E
          iapply E
          isplitl [Hx]; · iexact Hx
          isplitl [Ho]; · iexact Ho
          isplitl [HT]; · iexact HT
          isplitl [HA]; · iexact HA
          isplitl [HF]; · iexact HF
          isplitl [HI]; · iexact HI
          isplitl [HW]; · iexact HW
          iintro ⟨Hx, Ho, HT, HA, HI, HF, HW⟩
          iapply Hk
          isplitl [Hx]; · iexact Hx
          isplitl [Ho]; · iexact Ho
          isplitl [HT HTk]; · iapply HTk; iexact HT
          isplitr [HW]
          · isplitl [HA]; · iexact HA
            isplitl [HF]; · iexact HF
            iexact HI
          iexact HW
        · rw [hn, ahead_last]
          have E := first1Last c (grid0.coords t) arg7 harg7 arg11 harg11 x wg wu wd (ex (te (ix (j + 1)))) 4294967295#32 W h1 nx_neg K
          rw [ex_val hte] at E
          iapply E
          isplitl [Hx]; · iexact Hx
          isplitl [Ho]; · iexact Ho
          isplitl [HT]; · iexact HT
          isplitl [HA]; · iexact HA
          isplitl [HF]; · iexact HF
          isplitl [HI]; · iexact HI
          isplitl [HW]; · iexact HW
          iintro ⟨Hx, Ho, HT, HA, HI, HF, HW⟩
          iapply Hk
          isplitl [Hx]; · iexact Hx
          isplitl [Ho]; · iexact Ho
          isplitl [HT HTk]; · iapply HTk; iexact HT
          isplitr [HW]
          · isplitl [HA]; · iexact HA
            isplitl [HF]; · iexact HF
            iexact HI
          iexact HW
      · rw [hw, show 1#32 - 1#32 = 0#32 from by decide] at e2
        rw [hw, e2]
        rw [sl1]
        rcases hP.nx_lt (j + 1) ht with hn | hn
        · rw [ahead_next c wg wu wd hn, sl0]
          have E := first0Next c (grid0.coords t) arg7 harg7 arg11 harg11 x wg wu wd (ex (te (ix (j + 1)))) (ex (nx (ix (j + 1)))) W h1 K
          rw [ex_val hte, ex_val hn] at E
          iapply E
          isplitl [Hx]; · iexact Hx
          isplitl [Ho]; · iexact Ho
          isplitl [HT]; · iexact HT
          isplitl [HA]; · iexact HA
          isplitl [HF]; · iexact HF
          isplitl [HI]; · iexact HI
          isplitl [HW]; · iexact HW
          iintro ⟨Hx, Ho, HT, HA, HI, HF, HW⟩
          iapply Hk
          isplitl [Hx]; · iexact Hx
          isplitl [Ho]; · iexact Ho
          isplitl [HT HTk]; · iapply HTk; iexact HT
          isplitr [HW]
          · isplitl [HA]; · iexact HA
            isplitl [HF]; · iexact HF
            iexact HI
          iexact HW
        · rw [hn, ahead_last]
          have E := first0Last c (grid0.coords t) arg7 harg7 arg11 harg11 x wg wu wd (ex (te (ix (j + 1)))) 4294967295#32 W h1 nx_neg K
          rw [ex_val hte] at E
          iapply E
          isplitl [Hx]; · iexact Hx
          isplitl [Ho]; · iexact Ho
          isplitl [HT]; · iexact HT
          isplitl [HA]; · iexact HA
          isplitl [HF]; · iexact HF
          isplitl [HI]; · iexact HI
          isplitl [HW]; · iexact HW
          iintro ⟨Hx, Ho, HT, HA, HI, HF, HW⟩
          iapply Hk
          isplitl [Hx]; · iexact Hx
          isplitl [Ho]; · iexact Ho
          isplitl [HT HTk]; · iapply HTk; iexact HT
          isplitr [HW]
          · isplitl [HA]; · iexact HA
            isplitl [HI]; · iexact HI
            iexact HF
          iexact HW
end Body

end Cert.Experts

end
-- ==== Proof.Run.lean ====
module

public import proofs.«01_k».proof.Proof.Body
public import proofs.«01_k».proof.Proof.Gen.Kernel.Launch
public import Idealize.ShloMosaic.Lib.Pipeline.FrameBody
public import Idealize.ShloMosaic.Lib.WordCmp
public import Idealize.ShloMosaic.Lib.Claim
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## The region's entry, the tables -/

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 6) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tblTe : S96.Idx → BitVec 32 := tbl m 0
abbrev tblTf : S96.Idx → BitVec 32 := tbl m 1
abbrev tblTv : S96.Idx → BitVec 32 := tbl m 2
abbrev tblTi : S96.Idx → BitVec 32 := tbl m 3
abbrev tblNx : S96.Idx → BitVec 32 := tbl m 4
abbrev tblWs : S96.Idx → BitVec 32 := tbl m 5
/-- The launch tables hold a plan. -/
abbrev Planned : Prop := Plan (tblTe m) (tblTf m) (tblTv m) (tblTi m) (tblNx m) (tblWs m)

theorem PhiT0_eq (c : Dev nD) : (Pipeline.ΦT pre0 (tbl m) c : sProp 𝕄)
    = Tabs (F := F) c (tblTe m) (tblTf m) (tblTv m) (tblTi m) (tblNx m) (tblWs m) := by
  unfold Pipeline.ΦT Pipeline.prefHeld
  rw [show (Finset.univ : Finset (Fin 6)) = insert (0 : Fin 6) (insert 1 (insert 2 (insert 3 (insert 4 {(5 : Fin 6)})))) from by decide,
    bigSep_insert (by decide), bigSep_insert (by decide), bigSep_insert (by decide), bigSep_insert (by decide), bigSep_insert (by decide), bigSep_singleton]
  rfl

theorem coords_val : ∀ t : Fin grid0.N, ((grid0.coords t) 0).val = t.val := by decide +kernel
theorem coords_of : ∀ i : grid0.Coords, ∃ t : Fin grid0.N, grid0.coords t = i := by decide +kernel

theorem tr0 (i : grid0.Coords) : cc0_transform_0 k0_off1_inb numel1_S1 (tbl m) i = ![(tblTi m (ix (i 0).val)).toNat, 0] := by
  have h : (i 0).val < 96 := (i 0).isLt
  unfold cc0_transform_0
  have e : (tbl m).at 3 (Rect.unit (s := S96) ![(Scalar.indexCast (BitVec.ofNat 32 (i 0).val)).toNat] S1.size (k0_off1_inb i)) numel1_S1 = tblTi m (ix (i 0).val) := by
    refine ix_of (tblTi m) _ _ h ?_
    show (BitVec.ofNat 32 (i 0).val).toNat + 1 * 0 = (i 0).val
    rw [BitVec.toNat_ofNat]; omega
  simp only [e]
  rfl

theorem ok_of (hP : Planned m) : Ok m := by
  intro i
  refine ⟨?_, Or.inl rfl⟩
  have h : (i 0).val < 96 := (i 0).isLt
  have ht := hP.ti_lt (i 0).val h
  intro a
  rw [tr0]
  match a with
  | ⟨0, _⟩ =>
    show ((tblTi m (ix (i 0).val)).toNat + 1) * 2048 ≤ 196608
    omega
  | ⟨1, _⟩ => exact (by decide : (0 + 1) * 128 ≤ 128)

/-- No point leaves the result's block unwritten: the group is in use, or it is filled with zeros. -/
theorem live1 (hP : Planned m) (i : grid0.Coords) : idle0 (tbl m) 1 i = false := by
  have h : (i 0).val < 96 := (i 0).isLt
  have e : ∀ (off : Fin 1 → ℕ), off = ![(i 0).val] → (tbl m).atD 2 off = tblTv m (ix (i 0).val) := by
    rintro off rfl
    refine (dif_pos (fun a : Fin 1 => ?_)).trans (ix_of (tblTv m) _ _ h rfl)
    obtain rfl : a = 0 := Subsingleton.elim _ _
    exact h
  have o1 : k0_off23 i = ![(i 0).val] := by
    show ![(BitVec.ofNat 32 (i 0).val).toNat] = _
    rw [BitVec.toNat_ofNat, Nat.mod_eq_of_lt (by omega)]
  have o2 : k0_off24 i = ![(i 0).val] := by
    show ![(BitVec.ofNat 32 (i 0).val).toNat] = _
    rw [BitVec.toNat_ofNat, Nat.mod_eq_of_lt (by omega)]
  show (!(k0_cond4 ((tbl m).atD 2 (k0_off23 i)) == 1#1) && !(k0_cond5 ((tbl m).atD 2 (k0_off24 i)) == 1#1)) = false
  rw [e _ o1, e _ o2]
  rcases hP.tv01 (i 0).val h with h1 | h1 <;> rw [h1] <;> decide

/-! ## The kernel's own cells and the arrays it copies from -/

abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cell 0) 0 ∗ semVal ((c : Thread nD τ), cell 1) 0) := by
  rw [Pipeline.ownSems0_eq_of_list c osem0 [0, 1] (by decide) (by decide)]; rfl
def H0 : Finset (Ref sig .tc) := {main_arg7, main_arg8, main_arg9}
theorem H0_sub : H0 ⊆ Pipeline.restRefsP sig pre0 spec0 := by decide
abbrev vG (c : Dev nD) : MBuf (F := F) c mG := V m c main_arg7
abbrev vU (c : Dev nD) : MBuf (F := F) c mU := V m c main_arg8
abbrev vD (c : Dev nD) : MBuf (F := F) c mD := V m c main_arg9
theorem hbm0_eq (c : Dev nD) :
    (bigSep H0 (fun b => ((c : Thread nD τ).loc b) ↦{fullShare} V m c b) : sProp 𝕄)
      = iprop(allG c fullShare (vG m c) ∗ allU c fullShare (vU m c) ∗ allD c fullShare (vD m c)) := by
  rw [BI.bigSep_eq_bigSepL_of_eq [main_arg7, main_arg8, main_arg9] (by decide) (by decide)]; rfl

/-- The state before group `n`, at the launch tables and weights. -/
abbrev S (c : Dev nD) (n : ℕ) : sProp 𝕄 := St c (tblTe m) (tblNx m) (tblWs m) (vG m c) (vU m c) (vD m c) n
abbrev TT (c : Dev nD) : sProp 𝕄 := Tabs (F := F) c (tblTe m) (tblTf m) (tblTv m) (tblTi m) (tblNx m) (tblWs m)

theorem enter (c : Dev nD) :
    iprop(Pipeline.ΦD osem0 spec0 H0 (V m) c ∗ Pipeline.ΦT pre0 (tbl m) c) ⊢ (iprop(S m c 0 ∗ TT m c ∗ (∃ r, prngReg c r)) : sProp 𝕄) := by
  rw [Pipeline.ΦD_eq, scopedRest0_eq, ownSems00_eq, hbm0_eq, PhiT0_eq]
  iintro ⟨⟨⟨HG, HU, HD, ⟨%b0, HB0⟩, ⟨%b1, HB1⟩, ⟨%b2, HB2⟩⟩, HR, ⟨HC0, HC1⟩, ⟨HWG, HWU, HWD⟩⟩, HT⟩
  ihave HG2 := (slotsG_in (F := F) c) $$ HG
  ihave HU2 := (slotsU_in (F := F) c) $$ HU
  ihave HD2 := (slotsD_in (F := F) c) $$ HD
  icases HG2 with ⟨HG0, HG1⟩
  icases HU2 with ⟨HU0, HU1⟩
  icases HD2 with ⟨HD0, HD1⟩
  ihave HWG2 := (pointsTo_share (PosShare.mem_left_op_right fullShare)).1 $$ HWG
  ihave HWU2 := (pointsTo_share (PosShare.mem_left_op_right fullShare)).1 $$ HWU
  ihave HWD2 := (pointsTo_share (PosShare.mem_left_op_right fullShare)).1 $$ HWD
  icases HWG2 with ⟨HWG0, HWG1⟩
  icases HWU2 with ⟨HWU0, HWU1⟩
  icases HWD2 with ⟨HWD0, HWD1⟩
  isplitr [HT HR]
  · unfold S; rw [St_zero]; unfold AtAny Idle
    simp only [owns_whole]
    isplitl [HB0 HB1 HB2]
    · isplitl [HB0]; · iexists b0; iexact HB0
      isplitl [HB1]; · iexists b1; iexact HB1
      iexists b2; iexact HB2
    isplitl [HC0 HG0 HU0 HD0 HWG0 HWU0 HWD0]
    · isplitl [HC0]; · iexact HC0
      isplitl [HG0]; · iexact HG0
      isplitl [HU0]; · iexact HU0
      isplitl [HD0]; · iexact HD0
      isplitl [HWG0]; · iexact HWG0
      isplitl [HWU0]; · iexact HWU0
      iexact HWD0
    isplitl [HC1]; · iexact HC1
    isplitl [HG1]; · iexact HG1
    isplitl [HU1]; · iexact HU1
    isplitl [HD1]; · iexact HD1
    isplitl [HWG1]; · iexact HWG1
    isplitl [HWU1]; · iexact HWU1
    iexact HWD1
  isplitl [HT]; · iexact HT
  iexact HR

theorem leave (hP : Planned m) (c : Dev nD) :
    (iprop(S m c 96 ∗ TT m c ∗ (∃ r, prngReg c r)) : sProp 𝕄) ⊢ Pipeline.ΦD osem0 spec0 H0 (V m) c := by
  rw [Pipeline.ΦD_eq, scopedRest0_eq, ownSems00_eq, hbm0_eq]
  unfold S
  rw [show (St c (tblTe m) (tblNx m) (tblWs m) (vG m c) (vU m c) (vD m c) 96 : sProp 𝕄) = _ from St_succ c _ _ _ _ _ _ 95, hP.last, ahead_last]
  unfold At Idle
  simp only [owns_whole]
  iintro ⟨⟨⟨HB0, HB1, HB2⟩, ⟨HC0, HG0, HU0, HD0, HWG0, HWU0, HWD0⟩, ⟨HC1, HG1, HU1, HD1, HWG1, HWU1, HWD1⟩⟩, -, HR⟩
  isplitl [HG0 HG1 HU0 HU1 HD0 HD1 HB0 HB1 HB2]
  · isplitl [HG0 HG1]
    · iapply (slotsG_out (F := F) c); isplitl [HG0]; · iexact HG0
      iexact HG1
    isplitl [HU0 HU1]
    · iapply (slotsU_out (F := F) c); isplitl [HU0]; · iexact HU0
      iexact HU1
    isplitl [HD0 HD1]
    · iapply (slotsD_out (F := F) c); isplitl [HD0]; · iexact HD0
      iexact HD1
    isplitl [HB0]; · iexists _; iexact HB0
    isplitl [HB1]; · iexists _; iexact HB1
    iexists _; iexact HB2
  isplitl [HR]; · iexact HR
  isplitl [HC0 HC1]
  · isplitl [HC0]; · iexact HC0
    iexact HC1
  isplitl [HWG0 HWG1]
  · iapply (pointsTo_share (PosShare.mem_left_op_right fullShare)).2; isplitl [HWG0]; · iexact HWG0
    iexact HWG1
  isplitl [HWU0 HWU1]
  · iapply (pointsTo_share (PosShare.mem_left_op_right fullShare)).2; isplitl [HWU0]; · iexact HWU0
    iexact HWU1
  iapply (pointsTo_share (PosShare.mem_left_op_right fullShare)).2; isplitl [HWD0]; · iexact HWD0
  iexact HWD1

/-! ## The windows' blocks, the proof data -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- What group `t` leaves in its block of the result. -/
def outs (hO : Ok m) (c : Dev nD) (t : Fin (cfgM m hO).N) : Vec F S2048x128 .i32 :=
  outAt c (tblTe m) (tblTv m) (vG m c) (vU m c) (vD m c) (iblk m hO c 0 t) t.val

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => outs m hO c t
  Φ t := iprop(S m c t.val ∗ TT m c ∗ (∃ r, prngReg c r))
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = outs m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-! ## The body obligation -/

abbrev ms0_0 (hO : Ok m) (t : Fin (cfgM m hO).N) : Memref sig .tc .vmem S2048x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2048x128 .i32 := spec0_1.stage ((cfgM m hO).slots t 1)
abbrev hs0_1 (hO : Ok m) (t : Fin (cfgM m hO).N) : (ms0_1 m hO t).IsWhole := hstage0_1 (((cfgM m hO).slots t 1).cast nbuf0_1)
abbrev bodyAt0 (hO : Ok m) (t : Fin (cfgM m hO).N) : Prog (TpuEff nD τ sig (Elt F) Λ₀ .tc) PUnit :=
  bodyOn (grid0.coords t) (ms0_0 m hO t) (hs0_0 m hO t) (ms0_1 m hO t) (hs0_1 m hO t)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t))

theorem sound_body (hP : Planned m) (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0]
  rw [after0_0, after0_1]
  rw [show (dats m hO 0 c).Φ t.castSucc = iprop(S m c t.val ∗ TT m c ∗ (∃ r, prngReg c r)) from rfl,
    show (dats m hO 0 c).Φ t.succ = iprop(S m c (t.val + 1) ∗ TT m c ∗ (∃ r, prngReg c r)) from rfl]
  unfold Dat.owesAt Pipeline.owesWithin
  rw [show (dats m hO 0 c).owed t.castSucc = 0 from rfl, show (dats m hO 0 c).owed t.succ = 0 from rfl]
  iintro ⟨⟨HS, HT, HR⟩, ⟨%W, -, HW⟩, ⟨%d0, H0⟩, ⟨%d1, H1⟩⟩
  iapply (body_step c (tblTe m) (tblTf m) (tblTv m) (tblTi m) (tblNx m) (tblWs m) (vG m c) (vU m c) (vD m c) hP t (ms0_0 m hO t) (hs0_0 m hO t)
    (ms0_1 m hO t) (hs0_1 m hO t) (iblk m hO c 0 t) W _)
  isplitl [H0]; · iexact H0
  isplitl [H1]; · iexists _; iexact H1
  isplitl [HT]; · iexact HT
  isplitl [HS]; · iexact HS
  isplitl [HW]; · iexact HW
  iintro ⟨H0, H1, HT, HS, ⟨%W', HW⟩⟩
  isplitl [HS HT HR]
  · isplitl [HS]; · iexact HS
    isplitl [HT]; · iexact HT
    iexact HR
  isplitl [HW]
  · iexists W'; isplitr; · ipureintro; exact fun _ _ => Or.inl trivial
    iexact HW
  isplitl [H0]; · iexact H0
  iexact H1

theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

theorem idle_1 (hP : Planned m) (hO : Ok m) (t : Fin (cfgM m hO).N) : (cfgM m hO).idle 1 ((cfgM m hO).grid.coords t) = false :=
  live1 m hP (grid0.coords t)

theorem body_obligation (hP : Planned m) (hO : Ok m) (c : Dev nD) : BodyObligation (dats (F := F) m hO 0 c) (defs₀ (F := F)) Variants.none () Set.univ := fun t => by
  rw [bigSep_W0, bigSep_W0, defs₀_row m hO]
  refine triple_restated (sound_body m hP hO c t) rfl .rfl fun _ => ?_
  have e : idle0 (tbl m) 1 ((pcfg0.gridAt (tbl m)).coords t) = false := live1 m hP (grid0.coords t)
  simp only [idle_1 m hP hO t]
  rw [e]
  exact entails_refl (PROP := sProp 𝕄) _

/-! ## The run -/

set_option backward.isDefEq.respectTransparency.types false in
theorem run_main_quiescent (hP : Planned m) (hO : Ok m) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hP hO c).loose) (hshare := fun c => (dats m hO 0 c).share_full fun _ => rfl)
    (howed := fun _ _ => rfl) (V := V m) (hmain := hmain m Variants.none) (hA := A_eq m hO) (hpf := V_pre m)
    (hin := enter m) (hout := fun c => leave m hP c)

/-- Every argument array ends as it was, and the result holds every group's block. -/
theorem run_main (hP : Planned m) (hO : Ok m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c).2 main_arg0 (by decide : main_arg0 ∈ Pipeline.restRefs sig spec0), (h.1 c).2 main_arg1 (by decide : main_arg1 ∈ Pipeline.restRefs sig spec0),
      (h.1 c).2 main_arg2 (by decide : main_arg2 ∈ Pipeline.restRefs sig spec0), (h.1 c).2 main_arg3 (by decide : main_arg3 ∈ Pipeline.restRefs sig spec0),
      (h.1 c).2 main_arg4 (by decide : main_arg4 ∈ Pipeline.restRefs sig spec0), (h.1 c).2 main_arg5 (by decide : main_arg5 ∈ Pipeline.restRefs sig spec0),
      ((h.1 c).1 0).trans (((dats m hO 0 c).arrAt_in 0 rfl _).trans (A_eq m hO c 0)),
      (h.1 c).2 main_arg7 (by decide : main_arg7 ∈ Pipeline.restRefs sig spec0), (h.1 c).2 main_arg8 (by decide : main_arg8 ∈ Pipeline.restRefs sig spec0),
      (h.1 c).2 main_arg9 (by decide : main_arg9 ∈ Pipeline.restRefs sig spec0)⟩, h.2⟩) (run_main_quiescent m ρ hP hO)

end Cert.Experts

end
-- ==== Proof.RefPay.lean ====
module

public import proofs.«01_k».proof.Proof.Block
public import proofs.«01_k».proof.Proof.Gen.Reference.Skeleton
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

/-! ## One group of the reference -/

theorem xat_lt {r c : ℕ} (hr : r < 2048) (hc : c < 128) : ∀ a : Fin 2, (![r, c] : Fin 2 → ℕ) a < S2048x128.size a := by
  intro a
  match a with
  | ⟨0, _⟩ => exact hr
  | ⟨1, _⟩ => exact hc
def xat (r c : ℕ) (hr : r < 2048) (hc : c < 128) : S2048x128.Idx := fun a => ⟨(![r, c] : Fin 2 → ℕ) a, xat_lt hr hc a⟩

theorem xat_eq (p : S2048x128.Idx) (r c : ℕ) (hr : r < 2048) (hc : c < 128) (e0 : (p 0).val = r) (e1 : (p 1).val = c) : p = xat r c hr hc := by
  funext a
  match a with
  | ⟨0, _⟩ => exact Fin.ext e0
  | ⟨1, _⟩ => exact Fin.ext e1

/-- The low and the high half of every word of a block. -/
def lows (x : Vec F S2048x128 .i32) : FVec F S2048x128 .f32 := unpackElementwise 0 x
def highs (x : Vec F S2048x128 .i32) : FVec F S2048x128 .f32 := unpackElementwise 1 x

theorem r8 {r c : ℕ} (hr : r < 256) (hc : c < 1024) : 8 * r + c / 128 < 2048 := by omega
theorem m128 (c : ℕ) : c % 128 < 128 := Nat.mod_lt _ (by decide)

/-- The rows of a block: 1024 low halves, then 1024 high ones. -/
def rowsOf (x : Vec F S2048x128 .i32) : FVec F S256x2048 .f32 := fun i =>
  if h : (i 1).val < 1024 then lows x (xat _ _ (r8 (i 0).isLt h) (m128 (i 1).val))
  else highs x (xat (8 * (i 0).val + ((i 1).val - 1024) / 128) _ (r8 (i 0).isLt (by have h2 : (i 1).val < 2048 := (i 1).isLt; omega)) (m128 ((i 1).val - 1024)))

theorem rix_lt {r c : ℕ} (hr : r < 256) (hc : c < 128) : ∀ a : Fin 2, (![r, c] : Fin 2 → ℕ) a < S256x128.size a := by
  intro a
  match a with
  | ⟨0, _⟩ => exact hr
  | ⟨1, _⟩ => exact hc
def rix (r c : ℕ) (hr : r < 256) (hc : c < 128) : S256x128.Idx := fun a => ⟨(![r, c] : Fin 2 → ℕ) a, rix_lt hr hc a⟩

/-- The sixteen column blocks of the kernel's rows. -/
def parts (x : Vec F S2048x128 .i32) : List ((s : Shape) × (s.Idx → F .f32)) :=
  [⟨S256x128, unpackElementwise 0 (xrow x 0 inb_S2048x128_S256x128_0_0_s_8_1)⟩,
   ⟨S256x128, unpackElementwise 0 (xrow x 1 inb_S2048x128_S256x128_1_0_s_8_1)⟩,
   ⟨S256x128, unpackElementwise 0 (xrow x 2 inb_S2048x128_S256x128_2_0_s_8_1)⟩,
   ⟨S256x128, unpackElementwise 0 (xrow x 3 inb_S2048x128_S256x128_3_0_s_8_1)⟩,
   ⟨S256x128, unpackElementwise 0 (xrow x 4 inb_S2048x128_S256x128_4_0_s_8_1)⟩,
   ⟨S256x128, unpackElementwise 0 (xrow x 5 inb_S2048x128_S256x128_5_0_s_8_1)⟩,
   ⟨S256x128, unpackElementwise 0 (xrow x 6 inb_S2048x128_S256x128_6_0_s_8_1)⟩,
   ⟨S256x128, unpackElementwise 0 (xrow x 7 inb_S2048x128_S256x128_7_0_s_8_1)⟩,
   ⟨S256x128, unpackElementwise 1 (xrow x 0 inb_S2048x128_S256x128_0_0_s_8_1)⟩,
   ⟨S256x128, unpackElementwise 1 (xrow x 1 inb_S2048x128_S256x128_1_0_s_8_1)⟩,
   ⟨S256x128, unpackElementwise 1 (xrow x 2 inb_S2048x128_S256x128_2_0_s_8_1)⟩,
   ⟨S256x128, unpackElementwise 1 (xrow x 3 inb_S2048x128_S256x128_3_0_s_8_1)⟩,
   ⟨S256x128, unpackElementwise 1 (xrow x 4 inb_S2048x128_S256x128_4_0_s_8_1)⟩,
   ⟨S256x128, unpackElementwise 1 (xrow x 5 inb_S2048x128_S256x128_5_0_s_8_1)⟩,
   ⟨S256x128, unpackElementwise 1 (xrow x 6 inb_S2048x128_S256x128_6_0_s_8_1)⟩,
   ⟨S256x128, unpackElementwise 1 (xrow x 7 inb_S2048x128_S256x128_7_0_s_8_1)⟩]

theorem part_low (x : Vec F S2048x128 .i32) (h : Shape.Concatenates ((parts x).map (·.1)) S256x2048 1) (i : S256x2048.Idx) (b pre : ℕ)
    (hin : ∀ a, S256x128.size a = 0 ∨ (![b, 0] : Fin 2 → ℕ) a + (![8, 1] : Fin 2 → ℕ) a * (S256x128.size a - 1) < S2048x128.size a)
    (hk : b < (parts x).length) (hxk : (parts x)[b] = ⟨S256x128, unpackElementwise 0 (xrow x b hin)⟩)
    (hrep : ((parts x).take b).map (·.1) = List.replicate b S256x128)
    (e : pre = 128 * b) (hl : (i 1).val < 1024) (hb : (i 1).val / 128 = b) :
    concatenate S256x2048 1 (parts x) h i = lows x (xat _ _ (r8 (i 0).isLt hl) (m128 (i 1).val)) := by
  have h0 : (i 0).val < 256 := (i 0).isLt
  exact (concatenate_apply_piece 1 (parts x) h i b hk S256x128 (unpackElementwise 0 (xrow x b hin)) hxk rfl pre (by rw [hrep, List.map_replicate, List.sum_replicate]; show b • (128 : ℕ) = pre; rw [smul_eq_mul]; omega)
      (rix (i 0).val ((i 1).val - pre) h0 (by omega)) (fun a ha => by
        match a with
        | ⟨0, _⟩ => rfl
        | ⟨1, _⟩ => exact absurd rfl ha) (by show pre + ((i 1).val - pre) = (i 1).val; omega)).trans
      (congrArg (lows x) (xat_eq _ _ _ _ _ (by show b + 8 * (i 0).val = 8 * (i 0).val + (i 1).val / 128; omega)
        (by show 0 + 1 * ((i 1).val - pre) = (i 1).val % 128; omega)))

theorem part_high (x : Vec F S2048x128 .i32) (h : Shape.Concatenates ((parts x).map (·.1)) S256x2048 1) (i : S256x2048.Idx) (k b pre : ℕ)
    (hin : ∀ a, S256x128.size a = 0 ∨ (![b, 0] : Fin 2 → ℕ) a + (![8, 1] : Fin 2 → ℕ) a * (S256x128.size a - 1) < S2048x128.size a)
    (hk : k < (parts x).length) (hxk : (parts x)[k] = ⟨S256x128, unpackElementwise 1 (xrow x b hin)⟩)
    (hrep : ((parts x).take k).map (·.1) = List.replicate k S256x128)
    (e : pre = 1024 + 128 * b) (e' : k = 8 + b) (hl : ¬ (i 1).val < 1024) (hb : ((i 1).val - 1024) / 128 = b) :
    concatenate S256x2048 1 (parts x) h i = highs x (xat (8 * (i 0).val + ((i 1).val - 1024) / 128) _ (r8 (i 0).isLt (by have h2 : (i 1).val < 2048 := (i 1).isLt; omega)) (m128 ((i 1).val - 1024))) := by
  have h0 : (i 0).val < 256 := (i 0).isLt
  exact (concatenate_apply_piece 1 (parts x) h i k hk S256x128 (unpackElementwise 1 (xrow x b hin)) hxk rfl pre (by rw [hrep, List.map_replicate, List.sum_replicate]; show k • (128 : ℕ) = pre; rw [smul_eq_mul]; omega)
      (rix (i 0).val ((i 1).val - pre) h0 (by omega)) (fun a ha => by
        match a with
        | ⟨0, _⟩ => rfl
        | ⟨1, _⟩ => exact absurd rfl ha) (by show pre + ((i 1).val - pre) = (i 1).val; omega)).trans
      (congrArg (highs x) (xat_eq _ _ _ _ _ (by show b + 8 * (i 0).val = 8 * (i 0).val + ((i 1).val - 1024) / 128; omega)
        (by show 0 + 1 * ((i 1).val - pre) = ((i 1).val - 1024) % 128; omega)))

theorem rowsOf_parts (x : Vec F S2048x128 .i32) (h : Shape.Concatenates ((parts x).map (·.1)) S256x2048 1) :
    concatenate S256x2048 1 (parts x) h = rowsOf x := by
  funext i
  have h0 : (i 0).val < 256 := (i 0).isLt
  have h1 : (i 1).val < 2048 := (i 1).isLt
  by_cases hl : (i 1).val < 1024
  · refine Eq.trans ?_ (show _ = rowsOf x i from (dif_pos hl).symm)
    rcases (by omega : (i 1).val / 128 = 0 ∨ (i 1).val / 128 = 1 ∨ (i 1).val / 128 = 2 ∨ (i 1).val / 128 = 3 ∨ (i 1).val / 128 = 4 ∨ (i 1).val / 128 = 5 ∨ (i 1).val / 128 = 6 ∨ (i 1).val / 128 = 7) with hb | hb | hb | hb | hb | hb | hb | hb
    · exact part_low x h i 0 0 inb_S2048x128_S256x128_0_0_s_8_1 (by show 0 < 16; decide) rfl rfl rfl hl hb
    · exact part_low x h i 1 128 inb_S2048x128_S256x128_1_0_s_8_1 (by show 1 < 16; decide) rfl rfl rfl hl hb
    · exact part_low x h i 2 256 inb_S2048x128_S256x128_2_0_s_8_1 (by show 2 < 16; decide) rfl rfl rfl hl hb
    · exact part_low x h i 3 384 inb_S2048x128_S256x128_3_0_s_8_1 (by show 3 < 16; decide) rfl rfl rfl hl hb
    · exact part_low x h i 4 512 inb_S2048x128_S256x128_4_0_s_8_1 (by show 4 < 16; decide) rfl rfl rfl hl hb
    · exact part_low x h i 5 640 inb_S2048x128_S256x128_5_0_s_8_1 (by show 5 < 16; decide) rfl rfl rfl hl hb
    · exact part_low x h i 6 768 inb_S2048x128_S256x128_6_0_s_8_1 (by show 6 < 16; decide) rfl rfl rfl hl hb
    · exact part_low x h i 7 896 inb_S2048x128_S256x128_7_0_s_8_1 (by show 7 < 16; decide) rfl rfl rfl hl hb
  · refine Eq.trans ?_ (show _ = rowsOf x i from (dif_neg hl).symm)
    rcases (by omega : ((i 1).val - 1024) / 128 = 0 ∨ ((i 1).val - 1024) / 128 = 1 ∨ ((i 1).val - 1024) / 128 = 2 ∨ ((i 1).val - 1024) / 128 = 3 ∨ ((i 1).val - 1024) / 128 = 4 ∨ ((i 1).val - 1024) / 128 = 5 ∨ ((i 1).val - 1024) / 128 = 6 ∨ ((i 1).val - 1024) / 128 = 7) with hb | hb | hb | hb | hb | hb | hb | hb
    · exact part_high x h i 8 0 1024 inb_S2048x128_S256x128_0_0_s_8_1 (by show 8 < 16; decide) rfl rfl rfl rfl hl hb
    · exact part_high x h i 9 1 1152 inb_S2048x128_S256x128_1_0_s_8_1 (by show 9 < 16; decide) rfl rfl rfl rfl hl hb
    · exact part_high x h i 10 2 1280 inb_S2048x128_S256x128_2_0_s_8_1 (by show 10 < 16; decide) rfl rfl rfl rfl hl hb
    · exact part_high x h i 11 3 1408 inb_S2048x128_S256x128_3_0_s_8_1 (by show 11 < 16; decide) rfl rfl rfl rfl hl hb
    · exact part_high x h i 12 4 1536 inb_S2048x128_S256x128_4_0_s_8_1 (by show 12 < 16; decide) rfl rfl rfl rfl hl hb
    · exact part_high x h i 13 5 1664 inb_S2048x128_S256x128_5_0_s_8_1 (by show 13 < 16; decide) rfl rfl rfl rfl hl hb
    · exact part_high x h i 14 6 1792 inb_S2048x128_S256x128_6_0_s_8_1 (by show 14 < 16; decide) rfl rfl rfl rfl hl hb
    · exact part_high x h i 15 7 1920 inb_S2048x128_S256x128_7_0_s_8_1 (by show 15 < 16; decide) rfl rfl rfl rfl hl hb

/-! The reference's words of a group as 256 rows of 1024. -/

theorem wide_eq (h : S2048x128.ShapeCasts Cert.Reference.S256x1024) (j : Cert.Reference.S256x1024.Idx) (r c : ℕ) (hr : r < 2048) (hc : c < 128)
    (e : r * 128 + c = (j 0).val * 1024 + (j 1).val) (v : S2048x128.Idx → BitVec 32) :
    shapeCast Cert.Reference.S256x1024 v h j = v (xat r c hr hc) :=
  shapeCast_apply v h j _ (by
    rw [Shape.rowMajor_val_two, Shape.rowMajor_val_two]
    exact e)

theorem wix_lt {r c : ℕ} (hr : r < 256) (hc : c < 1024) : ∀ a : Fin 2, (![r, c] : Fin 2 → ℕ) a < Cert.Reference.S256x1024.size a := by
  intro a
  match a with
  | ⟨0, _⟩ => exact hr
  | ⟨1, _⟩ => exact hc
def wix (r c : ℕ) (hr : r < 256) (hc : c < 1024) : Cert.Reference.S256x1024.Idx := fun a => ⟨(![r, c] : Fin 2 → ℕ) a, wix_lt hr hc a⟩

theorem rowsOf_pair (x : Vec F S2048x128 .i32) (hs : S2048x128.ShapeCasts Cert.Reference.S256x1024)
    (h : Shape.Concatenates [Cert.Reference.S256x1024, Cert.Reference.S256x1024] S256x2048 1) :
    concatenate S256x2048 1 [⟨Cert.Reference.S256x1024, unpackElementwise 0 (shapeCast Cert.Reference.S256x1024 x hs)⟩, ⟨Cert.Reference.S256x1024, unpackElementwise 1 (shapeCast Cert.Reference.S256x1024 x hs)⟩] h
      = rowsOf x := by
  funext i
  have h0 : (i 0).val < 256 := (i 0).isLt
  have h1 : (i 1).val < 2048 := (i 1).isLt
  by_cases hl : (i 1).val < 1024
  · refine Eq.trans ?_ (show _ = rowsOf x i from (dif_pos hl).symm)
    refine (concatenate_pair_apply_left 1 _ _ h i rfl (wix (i 0).val (i 1).val h0 hl) (fun a => ?_)).trans ?_
    · match a with
      | ⟨0, _⟩ => rfl
      | ⟨1, _⟩ => rfl
    · exact congrArg (fun w : BitVec 32 => (FloatOps.extf .f32 (by decide) (FloatOps.ofBits .bf16 (w.extractLsb' (0 * 16) 16)) : F .f32))
        (wide_eq hs _ _ _ (r8 h0 hl) (m128 _) (by show (8 * (i 0).val + (i 1).val / 128) * 128 + (i 1).val % 128 = (i 0).val * 1024 + (i 1).val; omega) x)
  · refine Eq.trans ?_ (show _ = rowsOf x i from (dif_neg hl).symm)
    refine (concatenate_pair_apply_right 1 _ _ h i rfl rfl (wix (i 0).val ((i 1).val - 1024) h0 (by omega)) (fun a ha => ?_) ?_).trans ?_
    · match a with
      | ⟨0, _⟩ => rfl
      | ⟨1, _⟩ => exact absurd rfl ha
    · show ((i 1).val - 1024) + 1024 = (i 1).val
      omega
    · exact congrArg (fun w : BitVec 32 => (FloatOps.extf .f32 (by decide) (FloatOps.ofBits .bf16 (w.extractLsb' (1 * 16) 16)) : F .f32))
        (wide_eq hs _ _ _ (r8 h0 (by omega)) (m128 _) (by show (8 * (i 0).val + ((i 1).val - 1024) / 128) * 128 + ((i 1).val - 1024) % 128 = (i 0).val * 1024 + ((i 1).val - 1024); omega) x)

/-- The expert on the rows. -/
def act (X : FVec F S256x2048 .f32) (G U : Vec F S2048x512 .bf16) (D : Vec F S512x2048 .bf16) : FVec F S256x2048 .f32 :=
  have v47 : FVec F S256x2048 .bf16 := truncf .bf16 X bitsLt_bf16_f32
  have v49 : FVec F S256x512 .f32 := matmul dot_S256x2048_S2048x512_S256x512_1_0_0_1_n_n none v47 G (constant S256x512 .f32 0x00000000#32)
  have v51 : FVec F S256x512 .f32 := matmul dot_S256x2048_S2048x512_S256x512_1_0_0_1_n_n none v47 U (constant S256x512 .f32 0x00000000#32)
  have v54 : FVec F S256x512 .f32 := mulf (mulf v49 (logistic v49)) v51
  matmul dot_S256x512_S512x2048_S256x2048_1_0_0_1_n_n none (truncf .bf16 v54 bitsLt_bf16_f32) D (constant S256x2048 .f32 0x00000000#32)

theorem yv_eq (x : Vec F S2048x128 .i32) (G U : Vec F S2048x512 .bf16) (D : Vec F S512x2048 .bf16) : yv x G U D = act (rowsOf x) G U D := by
  refine (show yv x G U D = act (concatenate S256x2048 1 (parts x) (by exact (concatenates_S256x128_S256x128_S256x128_S256x128_S256x128_S256x128_S256x128_S256x128_S256x128_S256x128_S256x128_S256x128_S256x128_S256x128_S256x128_S256x128_S256x2048_d1))) G U D from rfl).trans (congrArg (fun X => act X G U D) (rowsOf_parts x _))

/-- A group's words as the reference writes them: the block's, or zeros where the group is unused. -/
theorem pay_eq (x : Vec F S2048x128 .i32) (g u : Vec F Cert.Reference.S1x1x2048x512 .f32) (d : Vec F Cert.Reference.S1x1x512x2048 .f32) (w : BitVec 32) :
    Cert.Reference.Gen.k0_pay1 x g u d w
      = if w = 1#32 then outBlk x (cvN (shapeCast S2048x512 g Cert.Reference.Facts₀.shapeCasts_S1x1x2048x512_S2048x512)) (cvN (shapeCast S2048x512 u Cert.Reference.Facts₀.shapeCasts_S1x1x2048x512_S2048x512))
          (cvT (shapeCast S512x2048 d Cert.Reference.Facts₀.shapeCasts_S1x1x512x2048_S512x2048))
        else fun _ => 0#32 := by
  funext y
  have h0 : (y 0).val < 2048 := (y 0).isLt
  have h1 : (y 1).val < 128 := (y 1).isLt
  have hw : ∀ v : Cert.Reference.S256x1024.Idx → BitVec 32, shapeCast S2048x128 v Cert.Reference.Facts₀.shapeCasts_S256x1024_S2048x128 y
      = v (wix ((y 0).val / 8) (128 * ((y 0).val % 8) + (y 1).val) (row_lt y) (by omega)) := fun v =>
    shapeCast_apply v _ y _ (by
      rw [Shape.rowMajor_val_two, Shape.rowMajor_val_two]
      show (y 0).val / 8 * 1024 + (128 * ((y 0).val % 8) + (y 1).val) = (y 0).val * 128 + (y 1).val
      omega)
  have key := (congrArg (fun X => act X (cvN (shapeCast S2048x512 g Cert.Reference.Facts₀.shapeCasts_S1x1x2048x512_S2048x512)) (cvN (shapeCast S2048x512 u Cert.Reference.Facts₀.shapeCasts_S1x1x2048x512_S2048x512)) (cvT (shapeCast S512x2048 d Cert.Reference.Facts₀.shapeCasts_S1x1x512x2048_S512x2048)))
    (rowsOf_pair x Cert.Reference.Facts₀.shapeCasts_S2048x128_S256x1024 Cert.Reference.Facts₀.concatenates_S256x1024_S256x1024_S256x2048_d1)).trans (yv_eq x _ _ _).symm
  have hp : Cert.Reference.Gen.k0_pay1 x g u d w
      = shapeCast S2048x128 (Scalar.select (Scalar.cmpi .eq w 1#32)
          (packElementwise
            (extractStridedSlice Cert.Reference.S256x1024 ![0, 0] (act (concatenate S256x2048 1 [⟨Cert.Reference.S256x1024, unpackElementwise 0 (shapeCast Cert.Reference.S256x1024 x Cert.Reference.Facts₀.shapeCasts_S2048x128_S256x1024)⟩, ⟨Cert.Reference.S256x1024, unpackElementwise 1 (shapeCast Cert.Reference.S256x1024 x Cert.Reference.Facts₀.shapeCasts_S2048x128_S256x1024)⟩] Cert.Reference.Facts₀.concatenates_S256x1024_S256x1024_S256x2048_d1)
              (cvN (shapeCast S2048x512 g Cert.Reference.Facts₀.shapeCasts_S1x1x2048x512_S2048x512)) (cvN (shapeCast S2048x512 u Cert.Reference.Facts₀.shapeCasts_S1x1x2048x512_S2048x512)) (cvT (shapeCast S512x2048 d Cert.Reference.Facts₀.shapeCasts_S1x1x512x2048_S512x2048))) Cert.Reference.Facts₀.slices_S256x2048_o0_0_S256x1024)
            (extractStridedSlice Cert.Reference.S256x1024 ![0, 1024] (act (concatenate S256x2048 1 [⟨Cert.Reference.S256x1024, unpackElementwise 0 (shapeCast Cert.Reference.S256x1024 x Cert.Reference.Facts₀.shapeCasts_S2048x128_S256x1024)⟩, ⟨Cert.Reference.S256x1024, unpackElementwise 1 (shapeCast Cert.Reference.S256x1024 x Cert.Reference.Facts₀.shapeCasts_S2048x128_S256x1024)⟩] Cert.Reference.Facts₀.concatenates_S256x1024_S256x1024_S256x2048_d1)
              (cvN (shapeCast S2048x512 g Cert.Reference.Facts₀.shapeCasts_S1x1x2048x512_S2048x512)) (cvN (shapeCast S2048x512 u Cert.Reference.Facts₀.shapeCasts_S1x1x2048x512_S2048x512)) (cvT (shapeCast S512x2048 d Cert.Reference.Facts₀.shapeCasts_S1x1x512x2048_S512x2048))) Cert.Reference.Facts₀.slices_S256x2048_o0_1024_S256x1024))
          (broadcast Cert.Reference.S256x1024 0#32)) Cert.Reference.Facts₀.shapeCasts_S256x1024_S2048x128 := rfl
  rw [hp, key]
  refine (hw _).trans ?_
  by_cases h : w = 1#32
  · subst h
    rw [if_pos rfl]
    show pk (yv x _ _ _ _) (yv x _ _ _ _) = pk (yv x _ _ _ _) (yv x _ _ _ _)
    congr 2
    · funext a
      match a with
      | ⟨0, _⟩ => exact Fin.ext (Nat.zero_add _)
      | ⟨1, _⟩ => exact Fin.ext (Nat.zero_add _)
    · funext a
      match a with
      | ⟨0, _⟩ => exact Fin.ext (Nat.zero_add _)
      | ⟨1, _⟩ => rfl
  · rw [if_neg h]
    have hz : Scalar.cmpi .eq w 1#32 = 0#1 := by
      show BitVec.ofBool (w == 1#32) = 0#1
      rw [beq_false_of_ne h]; rfl
    rw [hz]
    rfl

end Cert.Experts

end
-- ==== Proof.Result.lean ====
module

public import proofs.«01_k».proof.Proof.Body
public import proofs.«01_k».proof.Proof.RefPay
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

/-! ## The result, group by group -/

theorem lat_lt {r c : ℕ} (hr : r < 196608) (hc : c < 128) : ∀ a : Fin 2, (![r, c] : Fin 2 → ℕ) a < S196608x128.size a := by
  intro a
  match a with
  | ⟨0, _⟩ => exact hr
  | ⟨1, _⟩ => exact hc
def lat (r c : ℕ) (hr : r < 196608) (hc : c < 128) : S196608x128.Idx := fun a => ⟨(![r, c] : Fin 2 → ℕ) a, lat_lt hr hc a⟩

theorem lat_eq (p : S196608x128.Idx) (r c : ℕ) (hr : r < 196608) (hc : c < 128) (e0 : (p 0).val = r) (e1 : (p 1).val = c) : p = lat r c hr hc := by
  funext a
  match a with
  | ⟨0, _⟩ => exact Fin.ext e0
  | ⟨1, _⟩ => exact Fin.ext e1

theorem row_of {k r : ℕ} (hk : k < 96) (hr : r < 2048) : 2048 * k + r < 196608 := by omega

/-- The words of group `k`. -/
def rowsK (xs : Vec F S196608x128 .i32) (k : ℕ) (hk : k < 96) : Vec F S2048x128 .i32 :=
  fun z => xs (lat (2048 * k + (z 0).val) (z 1).val (row_of hk (z 0).isLt) (z 1).isLt)

theorem grp_lt (y : S196608x128.Idx) : (y 0).val / 2048 < 96 := by have h : (y 0).val < 196608 := (y 0).isLt; omega

/-- The whole result: every group's words from its own tokens and its expert's weights. -/
def resOf (c : Dev nD) (te tv : S96.Idx → BitVec 32) (xs : Vec F S196608x128 .i32) (wg : MBuf (F := F) c mG) (wu : MBuf (F := F) c mU) (wd : MBuf (F := F) c mD) : Vec F S196608x128 .i32 :=
  fun y => outAt c te tv wg wu wd (rowsK xs ((y 0).val / 2048) (grp_lt y)) ((y 0).val / 2048) (xat ((y 0).val % 2048) (y 1).val (Nat.mod_lt _ (by decide)) (y 1).isLt)

theorem resOf_at (c : Dev nD) (te tv : S96.Idx → BitVec 32) (xs : Vec F S196608x128 .i32) (wg : MBuf (F := F) c mG) (wu : MBuf (F := F) c mU) (wd : MBuf (F := F) c mD)
    (y : S196608x128.Idx) (z : S2048x128.Idx) (k : ℕ) (hk : k < 96) (e0 : (y 0).val = 2048 * k + (z 0).val) (e1 : (y 1).val = (z 1).val) :
    resOf c te tv xs wg wu wd y = outAt c te tv wg wu wd (rowsK xs k hk) k z := by
  have hz : (z 0).val < 2048 := (z 0).isLt
  have ek : (y 0).val / 2048 = k := by omega
  subst ek
  exact congrArg _ (xat_eq z _ _ (Nat.mod_lt _ (by decide)) (y 1).isLt (by omega) e1.symm).symm

/-- A group that is not in use does not read its tokens. -/
theorem outAt_rows (c : Dev nD) (te tv : S96.Idx → BitVec 32) (wg : MBuf (F := F) c mG) (wu : MBuf (F := F) c mU) (wd : MBuf (F := F) c mD)
    (x x' : Vec F S2048x128 .i32) (k : ℕ) (h : tv (ix k) = 1#32 → x = x') : outAt c te tv wg wu wd x k = outAt c te tv wg wu wd x' k := by
  by_cases e : tv (ix k) = 1#32
  · rw [h e]
  · unfold outAt; rw [if_neg e, if_neg e]

end Cert.Experts

end
-- ==== Proof.Value.lean ====
module

public import proofs.«01_k».proof.Proof.Run
public import proofs.«01_k».proof.Proof.Result
public import Idealize.ShloMosaic.Lib.Pipeline.ValueKit.Geometry
public import Idealize.ShloMosaic.Lib.VecWindow
public import Idealize.ShloMosaic.Lib.Pipeline.Value

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

variable (m : (ℓ : Loc nD τ sig) → Buf (Elt F) ℓ) (ρ : Dev nD → PrngReg)

/-! ## The kernel's result array -/

theorem idx1 (hO : Ok m) (t : Fin (cfgM m hO).N) : ((cfgM m hO).win 1).index t = ![t.val, 0] := by
  have h : t.val < 96 := N_0 ▸ t.isLt
  have e : ((grid0.coords t) 0).val = t.val := coords_val t
  show ![(BitVec.ofNat 32 ((grid0.coords t) 0).val).toNat, 0] = _
  rw [e, BitVec.toNat_ofNat, Nat.mod_eq_of_lt (by omega)]

theorem flush1 (hO : Ok m) (t : Fin (cfgM m hO).N) : ((cfgM m hO).win 1).flush t = true := by
  show (true && (decide (t.val + 1 = (cfgM m hO).grid.N) || decide (∃ h : t.val + 1 < (cfgM m hO).grid.N, ((cfgM m hO).win 1).index ⟨t.val + 1, h⟩ ≠ ((cfgM m hO).win 1).index t))) = true
  by_cases h : t.val + 1 = (cfgM m hO).grid.N
  · simp [h]
  · have h' : t.val + 1 < (cfgM m hO).grid.N := lt_of_le_of_ne t.isLt h
    have hd : decide (∃ h : t.val + 1 < (cfgM m hO).grid.N, ((cfgM m hO).win 1).index ⟨t.val + 1, h⟩ ≠ ((cfgM m hO).win 1).index t) = true := by
      refine decide_eq_true ⟨h', fun e => ?_⟩
      rw [idx1, idx1] at e
      have := congrFun e 0
      exact absurd this (Nat.succ_ne_self _)
    rw [hd]; simp

/-- Where the result's block of point `t` puts an index, the tokens' block likewise, and the two block indices. -/
def at1 (hO : Ok m) (t : Fin (cfgM m hO).N) (y : S2048x128.Idx) : S196608x128.Idx := (((cfgM m hO).win 1).blk t).view.emb y
def at0 (hO : Ok m) (t : Fin (cfgM m hO).N) (y : S2048x128.Idx) : S196608x128.Idx := (((cfgM m hO).win 0).blk t).view.emb y
def bi1 (hO : Ok m) (t : Fin (cfgM m hO).N) : Fin 2 → ℕ := ((cfgM m hO).win 1).index t
def bi0 (hO : Ok m) (t : Fin (cfgM m hO).N) : Fin 2 → ℕ := ((cfgM m hO).win 0).index t

theorem emb1 (hO : Ok m) (t : Fin (cfgM m hO).N) (y : S2048x128.Idx) :
    (at1 m hO t y 0).val = 2048 * t.val + (y 0).val ∧ (at1 m hO t y 1).val = (y 1).val := by
  have h : bi1 m hO t = ![t.val, 0] := idx1 m hO t
  constructor
  · show bi1 m hO t 0 * 2048 + 1 * (y 0).val = _
    rw [h]; show t.val * 2048 + 1 * (y 0).val = _; omega
  · show bi1 m hO t 1 * 128 + 1 * (y 1).val = _
    rw [h]; show 0 * 128 + 1 * (y 1).val = _; omega

theorem idx0 (hO : Ok m) (t : Fin (cfgM m hO).N) : ((cfgM m hO).win 0).index t = ![(tblTi m (ix t.val)).toNat, 0] := by
  have e : ((grid0.coords t) 0).val = t.val := coords_val t
  rw [← e]
  exact tr0 m (grid0.coords t)

/-- The block a group in use multiplies is its own. -/
theorem iblk_rows (hP : Planned m) (hO : Ok m) (c : Dev nD) (t : Fin (cfgM m hO).N) (ht : t.val < 96) (hv : tblTv m (ix t.val) = 1#32) :
    iblk m hO c 0 t = rowsK (V m c main_arg6) t.val ht := by
  have hi : tblTi m (ix t.val) = BitVec.ofNat 32 t.val := (hP.ti_eq t.val ht).resolve_left fun h => by rw [h] at hv; exact absurd hv (by decide)
  have h : bi0 m hO t = ![(tblTi m (ix t.val)).toNat, 0] := idx0 m hO t
  rw [hi, BitVec.toNat_ofNat, Nat.mod_eq_of_lt (by omega)] at h
  refine funext fun (z : S2048x128.Idx) => ?_
  refine (show iblk m hO c 0 t z = V m c main_arg6 (at0 m hO t z) from rfl).trans (congrArg (V m c main_arg6) (lat_eq (at0 m hO t z) _ _ _ _ ?_ ?_))
  · show bi0 m hO t 0 * 2048 + 1 * (z 0).val = _
    rw [h]; show t.val * 2048 + 1 * (z 0).val = _; omega
  · show bi0 m hO t 1 * 128 + 1 * (z 1).val = _
    rw [h]; show 0 * 128 + 1 * (z 1).val = _; omega

theorem arr1 (hP : Planned m) (hO : Ok m) (c : Dev nD) :
    (dats m hO 0 c).arrAt 1 (cfgM m hO).N = resOf c (tblTe m) (tblTv m) (V m c main_arg6) (vG m c) (vU m c) (vD m c) := by
  refine (dats m hO 0 c).arrAt_eq_of_emb 1 _ (fun t _ (y : S2048x128.Idx) => ?_) (fun (i : S196608x128.Idx) => ?_)
  · have ht : t.val < 96 := N_0 ▸ t.isLt
    have hy := emb1 m hO t y
    refine Eq.trans ?_ (resOf_at c (tblTe m) (tblTv m) (V m c main_arg6) (vG m c) (vU m c) (vD m c) _ y t.val ht hy.1 hy.2).symm
    refine Eq.trans (show _ = (dats m hO 0 c).after 1 t y from rfl) ?_
    rw [after0_1]
    exact congrFun (outAt_rows c _ _ _ _ _ _ _ t.val fun hv => iblk_rows m hP hO c t ht hv) y
  · have hi0 : (i 0).val < 196608 := (i 0).isLt
    have hi1 : (i 1).val < 128 := (i 1).isLt
    have hN : (cfgM m hO).N = 96 := N_0
    have hk : (i 0).val / 2048 < (cfgM m hO).N := by rw [hN]; omega
    refine ⟨⟨(i 0).val / 2048, hk⟩, flush1 m hO _, ?_⟩
    refine (((cfgM m hO).win 1).emb_mem_blk_iff ⟨(i 0).val / 2048, hk⟩ i rfl).mpr fun a => ?_
    rw [idx1]
    match a with
    | ⟨0, _⟩ =>
      show (i 0).val / 2048 * 2048 ≤ (i 0).val ∧ (i 0).val < (i 0).val / 2048 * 2048 + 2048
      omega
    | ⟨1, _⟩ =>
      show 0 * 128 ≤ (i 1).val ∧ (i 1).val < 0 * 128 + 128
      omega

/-- Besides what the run keeps, the result array ends holding every group's words. -/
theorem run_value (hP : Planned m) (hO : Ok m) :
    θ_run defs (onTc (τ := τ) (main (F := F))) ⟨m, fun _ => 0, ρ⟩ (fun r => ∀ c : Dev nD,
      r.2.mem ((c.tc : Thread nD τ).loc main_v0) = resOf c (tblTe m) (tblTv m) (V m c main_arg6) (vG m c) (vU m c) (vD m c)) :=
  (θ_run defs _ _).mono (fun _ h c => ((h.1 c).1 1).trans (arr1 m hP hO c)) (run_main_quiescent m ρ hP hO)

end Cert.Experts

end
-- ==== Proof.RefTrip.lean ====
module

public import proofs.«01_k».proof.Proof.Result
public import proofs.«01_k».proof.Proof.Gen.Reference.Frame
public import Idealize.ShloMosaic.Lib.VecWindow
public import Idealize.ShloMosaic.Lib.Pipeline.Value

@[expose] public section

set_option maxRecDepth 16384

noncomputable section

namespace Cert.ExpertsRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference Cert.Reference.Gen

variable {F : FTy → Type} [BitOps F]

/-! ## The pieces of one trip -/

theorem trip_eq (𝒱 : Variants) (c : Dev nD) (bd : Option 𝒱.V) (arg0 : Memref sig .tc .smem S96 .i32) (harg0 : arg0.IsWhole) (arg1 : Memref sig .tc .smem S96 .i32) (harg1 : arg1.IsWhole) (arg2 : Memref sig .tc .vmem S196608x128 .i32) (harg2 : arg2.IsWhole) (arg3 : Memref sig .tc .vmem S2x32x2048x512 .f32) (harg3 : arg3.IsWhole) (arg4 : Memref sig .tc .vmem S2x32x2048x512 .f32) (harg4 : arg4.IsWhole) (arg5 : Memref sig .tc .vmem S2x32x512x2048 .f32) (harg5 : arg5.IsWhole) (arg6 : Memref sig .tc .vmem S196608x128 .i32) (harg6 : arg6.IsWhole) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips)
    (hw : k0_chk1 (arg0.view.readAt (Elt F) (Rect.unit (s := S96) (k0_off1 k) S1.size (k0_off1_inb k)).toLoadRect X0 (Shape.Idx.first (numel1_S1.symm ▸ Nat.one_pos)))) :
    tripL_k0_t1 (F := F) 𝒱 c bd arg0 harg0 arg1 harg1 arg2 harg2 arg3 harg3 arg4 harg4 arg5 harg5 arg6 harg6 X0 X1 X2 X3 X4 X5 k hw
      = [⟨Rect.unit (s := S196608x128) (k0_off6 k) S2048x128.size (k0_off6_inb k),
          k0_pay1 (arg2.view.readAt (Elt F) (Rect.unit (s := S196608x128) (k0_off2 k) S2048x128.size (k0_off2_inb k)).toLoadRect X2)
            (arg3.view.readAt (Elt F) (Rect.unit (s := S2x32x2048x512) (k0_off3 (arg0.view.readAt (Elt F) (Rect.unit (s := S96) (k0_off1 k) S1.size (k0_off1_inb k)).toLoadRect X0 (Shape.Idx.first (numel1_S1.symm ▸ Nat.one_pos)))) S1x1x2048x512.size (k0_off3_inb _ hw)).toLoadRect X3)
            (arg4.view.readAt (Elt F) (Rect.unit (s := S2x32x2048x512) (k0_off3 (arg0.view.readAt (Elt F) (Rect.unit (s := S96) (k0_off1 k) S1.size (k0_off1_inb k)).toLoadRect X0 (Shape.Idx.first (numel1_S1.symm ▸ Nat.one_pos)))) S1x1x2048x512.size (k0_off3_inb _ hw)).toLoadRect X4)
            (arg5.view.readAt (Elt F) (Rect.unit (s := S2x32x512x2048) (k0_off4 (arg0.view.readAt (Elt F) (Rect.unit (s := S96) (k0_off1 k) S1.size (k0_off1_inb k)).toLoadRect X0 (Shape.Idx.first (numel1_S1.symm ▸ Nat.one_pos)))) S1x1x512x2048.size (k0_off4_inb _ hw)).toLoadRect X5)
            (arg1.view.readAt (Elt F) (Rect.unit (s := S96) (k0_off5 k) S1.size (k0_off5_inb k)).toLoadRect X1 (Shape.Idx.first (numel1_S1.symm ▸ Nat.one_pos)))⟩] := by
  unfold tripL_k0_t1 trip_k0_t1
  rfl

theorem run_pieces (c : Dev nD) (arg0 : Memref sig .tc .smem S96 .i32) (harg0 : arg0.IsWhole) (arg1 : Memref sig .tc .smem S96 .i32) (harg1 : arg1.IsWhole) (arg2 : Memref sig .tc .vmem S196608x128 .i32) (harg2 : arg2.IsWhole) (arg3 : Memref sig .tc .vmem S2x32x2048x512 .f32) (harg3 : arg3.IsWhole) (arg4 : Memref sig .tc .vmem S2x32x2048x512 .f32) (harg4 : arg4.IsWhole) (arg5 : Memref sig .tc .vmem S2x32x512x2048 .f32) (harg5 : arg5.IsWhole) (arg6 : Memref sig .tc .vmem S196608x128 .i32) (harg6 : arg6.IsWhole) (x0 : Vec F S96 .i32) (x1 : Vec F S96 .i32) (x2 : Vec F S196608x128 .i32) (x3 : Vec F S2x32x2048x512 .f32) (x4 : Vec F S2x32x2048x512 .f32) (x5 : Vec F S2x32x512x2048 .f32)
    (hw : ∀ (kq : ℕ) (hkq : kq < k0_t1_loop.trips), k0_chk1 (arg0.view.readAt (Elt F) (Rect.unit (s := S96) (k0_off1 ⟨kq, hkq⟩) S1.size (k0_off1_inb ⟨kq, hkq⟩)).toLoadRect (harg0.unread x0) (Shape.Idx.first (numel1_S1.symm ▸ Nat.one_pos)))) :
    (kernelRun0_A c arg0 harg0 arg1 harg1 arg2 harg2 arg3 harg3 arg4 harg4 arg5 harg5 arg6 harg6 x0 x1 x2 x3 x4 x5 hw).1
      = pb_k0_t1 (F := F) Variants.none c none arg0 harg0 arg1 harg1 arg2 harg2 arg3 harg3 arg4 harg4 arg5 harg5 arg6 harg6 (harg0.unread x0) (harg1.unread x1) (harg2.unread x2) (harg3.unread x3) (harg4.unread x4) (harg5.unread x5) hw k0_t1_loop.trips := by
  unfold kernelRun0_A
  rfl

end Cert.ExpertsRef

end
-- ==== Proof.RefOut.lean ====
module

public import proofs.«01_k».proof.Proof.RefTrip
public import Idealize.ShloMosaic.Lib.VecWindow
public import Idealize.ShloMosaic.Lib.Pipeline.Value

@[expose] public section

set_option maxRecDepth 16384

noncomputable section

namespace Cert.ExpertsRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference Cert.Reference.Gen

variable {F : FTy → Type} [BitOps F]

open Cert.Experts (ix ix_of ex ex_val Exp outAt outE rowsK resOf resOf_at lat lat_eq MBuf mG mU mD srcN srcT inbN inbT outBlk cvN cvT pay_eq)

/-! ## Where the loop reads and writes -/

theorem trip_lt (k : Fin k0_t1_loop.trips) : k.val < 96 := lt_of_lt_of_le k.isLt k0_t1_abs.2.1

theorem iv_val (k : Fin k0_t1_loop.trips) : (Scf.iv (0#32 : BitVec 32) (1#32 : BitVec 32) k).toNat = k.val := by
  have h := trip_lt k
  simp only [Scf.iv]
  simp [BitVec.toNat_add, BitVec.toNat_mul, BitVec.toNat_ofNat]
  omega

theorem iv_mul (k : Fin k0_t1_loop.trips) : (Scf.iv (0#32 : BitVec 32) (1#32 : BitVec 32) k * 2048#32).toNat = 2048 * k.val := by
  have h := trip_lt k
  rw [BitVec.toNat_mul, iv_val]
  show k.val * 2048 % 4294967296 = _
  omega

theorem off1_val (k : Fin k0_t1_loop.trips) : k0_off1 k 0 = k.val := iv_val k
theorem off5_val (k : Fin k0_t1_loop.trips) : k0_off5 k 0 = k.val := iv_val k
theorem off2_val (k : Fin k0_t1_loop.trips) : k0_off2 k 0 = 2048 * k.val := iv_mul k
theorem off6_val (k : Fin k0_t1_loop.trips) : k0_off6 k 0 = 2048 * k.val := iv_mul k

/-! ## What the loop reads -/

theorem word_at (M : Memref sig .tc .smem S96 .i32) (hM : M.IsWhole) (x : Vec F S96 .i32) (off : Fin 1 → ℕ) (hi : ∀ a, off a + S1.size a ≤ S96.size a)
    (k : ℕ) (hk : k < 96) (ho : off 0 = k) :
    M.view.readAt (Elt F) (Rect.unit (s := S96) off S1.size hi).toLoadRect (hM.unread x) (Shape.Idx.first (numel1_S1.symm ▸ Nat.one_pos)) = x (ix k) := by
  rw [View.readAt_apply, hM.read_unread]
  refine ix_of x _ k hk ?_
  show off 0 + 1 * 0 = k
  omega

theorem rows_at (M : Memref sig .tc .vmem S196608x128 .i32) (hM : M.IsWhole) (x : Vec F S196608x128 .i32) (k : Fin k0_t1_loop.trips) (hi : ∀ a, k0_off2 k a + S2048x128.size a ≤ S196608x128.size a) :
    M.view.readAt (Elt F) (Rect.unit (s := S196608x128) (k0_off2 k) S2048x128.size hi).toLoadRect (hM.unread x) = rowsK x k.val (trip_lt k) := by
  refine funext fun (z : S2048x128.Idx) => ?_
  rw [View.readAt_apply, hM.read_unread]
  refine congrArg x (lat_eq _ _ _ _ _ ?_ ?_)
  · show k0_off2 k 0 + 1 * (z 0).val = _
    rw [off2_val]; omega
  · show 0 + 1 * (z 1).val = _
    omega

theorem gate_at (c : Dev nD) (M : Memref sig .tc .vmem S2x32x2048x512 .f32) (hM : M.IsWhole) (x : Vec F S2x32x2048x512 .f32) (w : BitVec 32) (h : w.toNat < 32) (hi : ∀ a, k0_off3 w a + S1x1x2048x512.size a ≤ S2x32x2048x512.size a) (hs) :
    shapeCast S2048x512 (M.view.readAt (Elt F) (Rect.unit (s := S2x32x2048x512) (k0_off3 w) S1x1x2048x512.size hi).toLoadRect (hM.unread x)) hs
      = (srcN mG _ (inbN (ex w))).view.read (Elt F) (x : MBuf (F := F) c mG) := by
  have e : ex w = ⟨w, h⟩ := Subtype.ext (ex_val h)
  rw [e]
  have e' : M.view.readAt (Elt F) (Rect.unit (s := S2x32x2048x512) (k0_off3 w) S1x1x2048x512.size hi).toLoadRect (hM.unread x) = fun z => x ((Rect.unit (s := S2x32x2048x512) (k0_off3 w) S1x1x2048x512.size hi).emb z) := by
    funext z; rw [View.readAt_apply, hM.read_unread]; rfl
  rw [e']
  rfl

theorem up_at (c : Dev nD) (M : Memref sig .tc .vmem S2x32x2048x512 .f32) (hM : M.IsWhole) (x : Vec F S2x32x2048x512 .f32) (w : BitVec 32) (h : w.toNat < 32) (hi : ∀ a, k0_off3 w a + S1x1x2048x512.size a ≤ S2x32x2048x512.size a) (hs) :
    shapeCast S2048x512 (M.view.readAt (Elt F) (Rect.unit (s := S2x32x2048x512) (k0_off3 w) S1x1x2048x512.size hi).toLoadRect (hM.unread x)) hs
      = (srcN mU _ (inbN (ex w))).view.read (Elt F) (x : MBuf (F := F) c mU) := by
  have e : ex w = ⟨w, h⟩ := Subtype.ext (ex_val h)
  rw [e]
  have e' : M.view.readAt (Elt F) (Rect.unit (s := S2x32x2048x512) (k0_off3 w) S1x1x2048x512.size hi).toLoadRect (hM.unread x) = fun z => x ((Rect.unit (s := S2x32x2048x512) (k0_off3 w) S1x1x2048x512.size hi).emb z) := by
    funext z; rw [View.readAt_apply, hM.read_unread]; rfl
  rw [e']
  rfl

theorem down_at (c : Dev nD) (M : Memref sig .tc .vmem S2x32x512x2048 .f32) (hM : M.IsWhole) (x : Vec F S2x32x512x2048 .f32) (w : BitVec 32) (h : w.toNat < 32) (hi : ∀ a, k0_off4 w a + S1x1x512x2048.size a ≤ S2x32x512x2048.size a) (hs) :
    shapeCast S512x2048 (M.view.readAt (Elt F) (Rect.unit (s := S2x32x512x2048) (k0_off4 w) S1x1x512x2048.size hi).toLoadRect (hM.unread x)) hs
      = (srcT mD _ (inbT (ex w))).view.read (Elt F) (x : MBuf (F := F) c mD) := by
  have e : ex w = ⟨w, h⟩ := Subtype.ext (ex_val h)
  rw [e]
  have e' : M.view.readAt (Elt F) (Rect.unit (s := S2x32x512x2048) (k0_off4 w) S1x1x512x2048.size hi).toLoadRect (hM.unread x) = fun z => x ((Rect.unit (s := S2x32x512x2048) (k0_off4 w) S1x1x512x2048.size hi).emb z) := by
    funext z; rw [View.readAt_apply, hM.read_unread]; rfl
  rw [e']
  rfl

/-! ## Every piece holds the result's words -/

theorem trip_agree (𝒱 : Variants) (c : Dev nD) (bd : Option 𝒱.V) (arg0 : Memref sig .tc .smem S96 .i32) (harg0 : arg0.IsWhole) (arg1 : Memref sig .tc .smem S96 .i32) (harg1 : arg1.IsWhole) (arg2 : Memref sig .tc .vmem S196608x128 .i32) (harg2 : arg2.IsWhole) (arg3 : Memref sig .tc .vmem S2x32x2048x512 .f32) (harg3 : arg3.IsWhole) (arg4 : Memref sig .tc .vmem S2x32x2048x512 .f32) (harg4 : arg4.IsWhole) (arg5 : Memref sig .tc .vmem S2x32x512x2048 .f32) (harg5 : arg5.IsWhole) (arg6 : Memref sig .tc .vmem S196608x128 .i32) (harg6 : arg6.IsWhole) (x0 : Vec F S96 .i32) (x1 : Vec F S96 .i32) (x2 : Vec F S196608x128 .i32) (x3 : Vec F S2x32x2048x512 .f32) (x4 : Vec F S2x32x2048x512 .f32) (x5 : Vec F S2x32x512x2048 .f32) (hx : ∀ j < 96, (x0 (ix j) : BitVec 32).toNat < 32)
    (k : Fin k0_t1_loop.trips) (hw : k0_chk1 (arg0.view.readAt (Elt F) (Rect.unit (s := S96) (k0_off1 k) S1.size (k0_off1_inb k)).toLoadRect (harg0.unread x0) (Shape.Idx.first (numel1_S1.symm ▸ Nat.one_pos))))
    (p : View.Piece (Elt F) S196608x128 .i32) (hp : p ∈ tripL_k0_t1 (F := F) 𝒱 c bd arg0 harg0 arg1 harg1 arg2 harg2 arg3 harg3 arg4 harg4 arg5 harg5 arg6 harg6 (harg0.unread x0) (harg1.unread x1) (harg2.unread x2) (harg3.unread x3) (harg4.unread x4) (harg5.unread x5) k hw) (z) :
    p.2 z = resOf c x0 x1 x2 x3 x4 x5 (p.1.emb z) := by
  rw [trip_eq, List.mem_singleton] at hp
  have e0 := word_at arg0 harg0 x0 (k0_off1 k) (k0_off1_inb k) k.val (trip_lt k) (off1_val k)
  have e1 := word_at arg1 harg1 x1 (k0_off5 k) (k0_off5_inb k) k.val (trip_lt k) (off5_val k)
  have hl := hx k.val (trip_lt k)
  subst hp
  dsimp only at z ⊢
  revert hw
  rw [e0, e1, rows_at]
  intro hw
  rw [pay_eq, gate_at c arg3 harg3 x3 _ hl, up_at c arg4 harg4 x4 _ hl, down_at c arg5 harg5 x5 _ hl]
  refine Eq.trans ?_ (resOf_at c x0 x1 x2 x3 x4 x5 _ z k.val (trip_lt k) ?_ ?_).symm
  · rfl
  · show k0_off6 k 0 + 1 * (z 0).val = _
    rw [off6_val]; omega
  · show 0 + 1 * (z 1).val = _
    omega

theorem pb_agree (𝒱 : Variants) (c : Dev nD) (bd : Option 𝒱.V) (arg0 : Memref sig .tc .smem S96 .i32) (harg0 : arg0.IsWhole) (arg1 : Memref sig .tc .smem S96 .i32) (harg1 : arg1.IsWhole) (arg2 : Memref sig .tc .vmem S196608x128 .i32) (harg2 : arg2.IsWhole) (arg3 : Memref sig .tc .vmem S2x32x2048x512 .f32) (harg3 : arg3.IsWhole) (arg4 : Memref sig .tc .vmem S2x32x2048x512 .f32) (harg4 : arg4.IsWhole) (arg5 : Memref sig .tc .vmem S2x32x512x2048 .f32) (harg5 : arg5.IsWhole) (arg6 : Memref sig .tc .vmem S196608x128 .i32) (harg6 : arg6.IsWhole) (x0 : Vec F S96 .i32) (x1 : Vec F S96 .i32) (x2 : Vec F S196608x128 .i32) (x3 : Vec F S2x32x2048x512 .f32) (x4 : Vec F S2x32x2048x512 .f32) (x5 : Vec F S2x32x512x2048 .f32) (hx : ∀ j < 96, (x0 (ix j) : BitVec 32).toNat < 32)
    (hw : ∀ (kq : ℕ) (hkq : kq < k0_t1_loop.trips), k0_chk1 (arg0.view.readAt (Elt F) (Rect.unit (s := S96) (k0_off1 ⟨kq, hkq⟩) S1.size (k0_off1_inb ⟨kq, hkq⟩)).toLoadRect (harg0.unread x0) (Shape.Idx.first (numel1_S1.symm ▸ Nat.one_pos)))) (n : ℕ) (hn : n ≤ k0_t1_loop.trips) :
    ∀ p ∈ pb_k0_t1 (F := F) 𝒱 c bd arg0 harg0 arg1 harg1 arg2 harg2 arg3 harg3 arg4 harg4 arg5 harg5 arg6 harg6 (harg0.unread x0) (harg1.unread x1) (harg2.unread x2) (harg3.unread x3) (harg4.unread x4) (harg5.unread x5) hw n, ∀ z, p.2 z = resOf c x0 x1 x2 x3 x4 x5 (p.1.emb z) := by
  induction n with
  | zero => intro p hp; exact absurd hp (by simp [pb_k0_t1])
  | succ n ih =>
    intro p hp z
    rw [pb_k0_t1_succ 𝒱 c bd arg0 harg0 arg1 harg1 arg2 harg2 arg3 harg3 arg4 harg4 arg5 harg5 arg6 harg6 _ _ _ _ _ _ hw ⟨n, hn⟩, List.mem_append] at hp
    rcases hp with hp | hp
    · exact trip_agree 𝒱 c bd arg0 harg0 arg1 harg1 arg2 harg2 arg3 harg3 arg4 harg4 arg5 harg5 arg6 harg6 x0 x1 x2 x3 x4 x5 hx ⟨n, hn⟩ _ p hp z
    · exact ih (Nat.le_of_succ_le hn) p hp z

theorem out_eq (c : Dev nD) (arg0 : Memref sig .tc .smem S96 .i32) (harg0 : arg0.IsWhole) (arg1 : Memref sig .tc .smem S96 .i32) (harg1 : arg1.IsWhole) (arg2 : Memref sig .tc .vmem S196608x128 .i32) (harg2 : arg2.IsWhole) (arg3 : Memref sig .tc .vmem S2x32x2048x512 .f32) (harg3 : arg3.IsWhole) (arg4 : Memref sig .tc .vmem S2x32x2048x512 .f32) (harg4 : arg4.IsWhole) (arg5 : Memref sig .tc .vmem S2x32x512x2048 .f32) (harg5 : arg5.IsWhole) (arg6 : Memref sig .tc .vmem S196608x128 .i32) (harg6 : arg6.IsWhole) (x0 : Vec F S96 .i32) (x1 : Vec F S96 .i32) (x2 : Vec F S196608x128 .i32) (x3 : Vec F S2x32x2048x512 .f32) (x4 : Vec F S2x32x2048x512 .f32) (x5 : Vec F S2x32x512x2048 .f32) (hx : ∀ j < 96, (x0 (ix j) : BitVec 32).toNat < 32)
    (hw : ∀ (kq : ℕ) (hkq : kq < k0_t1_loop.trips), k0_chk1 (arg0.view.readAt (Elt F) (Rect.unit (s := S96) (k0_off1 ⟨kq, hkq⟩) S1.size (k0_off1_inb ⟨kq, hkq⟩)).toLoadRect (harg0.unread x0) (Shape.Idx.first (numel1_S1.symm ▸ Nat.one_pos)))) :
    out0_A_6 c arg0 harg0 arg1 harg1 arg2 harg2 arg3 harg3 arg4 harg4 arg5 harg5 arg6 harg6 x0 x1 x2 x3 x4 x5 hw = resOf c x0 x1 x2 x3 x4 x5 := by
  refine funext fun (y : S196608x128.Idx) => ?_
  refine View.read_writes_apply_of_pieces VO0_6 _ (resOf c x0 x1 x2 x3 x4 x5) _ ?_ y (cover0_A_6 c arg0 harg0 arg1 harg1 arg2 harg2 arg3 harg3 arg4 harg4 arg5 harg5 arg6 harg6 x0 x1 x2 x3 x4 x5 hw y)
  rw [run_pieces]
  exact pb_agree Variants.none c none arg0 harg0 arg1 harg1 arg2 harg2 arg3 harg3 arg4 harg4 arg5 harg5 arg6 harg6 x0 x1 x2 x3 x4 x5 hx hw _ le_rfl

end Cert.ExpertsRef

end
-- ==== Proof.RefRun.lean ====
module

public import proofs.«01_k».proof.Proof.RefOut
public import Idealize.ShloMosaic.Lib.Pipeline.ValueKit.Geometry
public import Idealize.ShloMosaic.Lib.VecWindow
public import Idealize.ShloMosaic.Lib.Pipeline.Value

@[expose] public section

set_option maxRecDepth 16384

noncomputable section

namespace Cert.ExpertsRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Reference Cert.Reference.Gen

variable {F : FTy → Type} [BitOps F]

open Cert.Experts (ix ix_of resOf)

variable (m : (ℓ : Loc nD τ sig) → Buf (Elt F) ℓ) (ρ : Dev nD → PrngReg)

/-! ## The windows are the whole arrays -/

theorem iblk_0 (c : Dev nD) (t : Fin cfg0.N) : iblk m c 0 t = V m c main_arg0 := by
  refine funext fun (y : S96.Idx) => ?_
  refine congrArg (V m c main_arg0) (funext fun a => Fin.ext ?_)
  match a with
  | ⟨0, _⟩ => show 0 * 96 + 1 * (y 0).val = (y 0).val; omega
theorem iblk_1 (c : Dev nD) (t : Fin cfg0.N) : iblk m c 1 t = V m c main_arg2 := by
  refine funext fun (y : S96.Idx) => ?_
  refine congrArg (V m c main_arg2) (funext fun a => Fin.ext ?_)
  match a with
  | ⟨0, _⟩ => show 0 * 96 + 1 * (y 0).val = (y 0).val; omega
theorem iblk_2 (c : Dev nD) (t : Fin cfg0.N) : iblk m c 2 t = V m c main_arg6 := by
  refine funext fun (y : S196608x128.Idx) => ?_
  refine congrArg (V m c main_arg6) (funext fun a => Fin.ext ?_)
  match a with
  | ⟨0, _⟩ => show 0 * 196608 + 1 * (y 0).val = (y 0).val; omega
  | ⟨1, _⟩ => show 0 * 128 + 1 * (y 1).val = (y 1).val; omega
theorem iblk_3 (c : Dev nD) (t : Fin cfg0.N) : iblk m c 3 t = V m c main_arg7 := by
  refine funext fun (y : S2x32x2048x512.Idx) => ?_
  refine congrArg (V m c main_arg7) (funext fun a => Fin.ext ?_)
  match a with
  | ⟨0, _⟩ => show 0 * 2 + 1 * (y 0).val = (y 0).val; omega
  | ⟨1, _⟩ => show 0 * 32 + 1 * (y 1).val = (y 1).val; omega
  | ⟨2, _⟩ => show 0 * 2048 + 1 * (y 2).val = (y 2).val; omega
  | ⟨3, _⟩ => show 0 * 512 + 1 * (y 3).val = (y 3).val; omega
theorem iblk_4 (c : Dev nD) (t : Fin cfg0.N) : iblk m c 4 t = V m c main_arg8 := by
  refine funext fun (y : S2x32x2048x512.Idx) => ?_
  refine congrArg (V m c main_arg8) (funext fun a => Fin.ext ?_)
  match a with
  | ⟨0, _⟩ => show 0 * 2 + 1 * (y 0).val = (y 0).val; omega
  | ⟨1, _⟩ => show 0 * 32 + 1 * (y 1).val = (y 1).val; omega
  | ⟨2, _⟩ => show 0 * 2048 + 1 * (y 2).val = (y 2).val; omega
  | ⟨3, _⟩ => show 0 * 512 + 1 * (y 3).val = (y 3).val; omega
theorem iblk_5 (c : Dev nD) (t : Fin cfg0.N) : iblk m c 5 t = V m c main_arg9 := by
  refine funext fun (y : S2x32x512x2048.Idx) => ?_
  refine congrArg (V m c main_arg9) (funext fun a => Fin.ext ?_)
  match a with
  | ⟨0, _⟩ => show 0 * 2 + 1 * (y 0).val = (y 0).val; omega
  | ⟨1, _⟩ => show 0 * 32 + 1 * (y 1).val = (y 1).val; omega
  | ⟨2, _⟩ => show 0 * 512 + 1 * (y 2).val = (y 2).val; omega
  | ⟨3, _⟩ => show 0 * 2048 + 1 * (y 3).val = (y 3).val; omega

/-- The side condition of every trip: each group's expert is one of the 32. -/
theorem hyps_of (hx : ∀ c : Dev nD, ∀ j < 96, (V m c main_arg0 (ix j) : BitVec 32).toNat < 32) : Hyps m := by
  refine Hyps.of fun c t kq hkq => ?_
  rw [iblk_0, word_at (ms0_0 t) (hs0_0 t) (V m c main_arg0) (k0_off1 ⟨kq, hkq⟩) (k0_off1_inb ⟨kq, hkq⟩) kq (trip_lt ⟨kq, hkq⟩) (off1_val ⟨kq, hkq⟩)]
  have h := hx c kq (trip_lt ⟨kq, hkq⟩)
  constructor
  · intro a
    match a with
    | ⟨0, _⟩ => exact (by decide : 1 + 1 ≤ 2)
    | ⟨1, _⟩ => exact (by omega : (V m c main_arg0 (ix kq) : BitVec 32).toNat + 1 ≤ 32)
    | ⟨2, _⟩ => exact (by decide : 0 + 2048 ≤ 2048)
    | ⟨3, _⟩ => exact (by decide : 0 + 512 ≤ 512)
  · intro a
    match a with
    | ⟨0, _⟩ => exact (by decide : 1 + 1 ≤ 2)
    | ⟨1, _⟩ => exact (by omega : (V m c main_arg0 (ix kq) : BitVec 32).toNat + 1 ≤ 32)
    | ⟨2, _⟩ => exact (by decide : 0 + 512 ≤ 512)
    | ⟨3, _⟩ => exact (by decide : 0 + 2048 ≤ 2048)

/-- The result of the arguments as the run finds them. -/
def refRes (c : Dev nD) : Vec F S196608x128 .i32 :=
  resOf c (V m c main_arg0) (V m c main_arg2) (V m c main_arg6) (V m c main_arg7) (V m c main_arg8) (V m c main_arg9)

theorem outs_eq (hH : Hyps m) (hx : ∀ c : Dev nD, ∀ j < 96, (V m c main_arg0 (ix j) : BitVec 32).toNat < 32) (c : Dev nD) (t : Fin cfg0.N) :
    outsAt0 m hH c t = refRes m c := by
  have h := Hyps.c0 hH c t
  unfold outsAt0
  refine (out_eq c _ _ _ _ _ _ _ _ _ _ _ _ _ _ _ _ _ _ _ _ ?_ _).trans ?_
  · rw [iblk_0]; exact hx c
  · rw [iblk_0, iblk_1, iblk_2, iblk_3, iblk_4, iblk_5]; rfl

theorem arr6 (hH : Hyps m) (hx : ∀ c : Dev nD, ∀ j < 96, (V m c main_arg0 (ix j) : BitVec 32).toNat < 32) (c : Dev nD) :
    (dats m hH 0 c).arrAt 6 cfg0.N = refRes m c := by
  refine (dats m hH 0 c).arrAt_eq_of_covers 6 _ (by decide +kernel) (fun t _ (y : S196608x128.Idx) => ?_)
  refine Eq.trans (show _ = (dats m hH 0 c).after 6 t y from rfl) ?_
  rw [after0_6, outs_eq m hH hx]
  refine congrArg (refRes m c) (funext fun a => Fin.ext ?_)
  match a with
  | ⟨0, _⟩ => show (y 0).val = 0 * 196608 + 1 * (y 0).val; omega
  | ⟨1, _⟩ => show (y 1).val = 0 * 128 + 1 * (y 1).val; omega

/-- The run leaves the result array at what the arguments give, and the arguments as they were. -/
theorem run_value (hx : ∀ c : Dev nD, ∀ j < 96, (V m c main_arg0 (ix j) : BitVec 32).toNat < 32) :
    θ_run defs (onTc (τ := τ) (main (F := F))) ⟨m, fun _ => 0, ρ⟩ (fun r => ∀ c : Dev nD,
      r.2.mem ((c.tc : Thread nD τ).loc main_v0) = refRes m c) :=
  (θ_run defs _ _).mono (fun _ h c => ((h c).1 6).trans (arr6 m (hyps_of m hx) hx c)) (run_main m ρ (hyps_of m hx))

end Cert.ExpertsRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Pre_plan_ok
public import proofs.«01_k».proof.Proof.Gen.Kernel2
public import proofs.«01_k».proof.Proof.Gen.Kernel2.Frame
public import proofs.«01_k».proof.Proof.Gen.Kernel2.Launch
public import proofs.«01_k».proof.Proof.Gen.Kernel2.Points
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Value
public import proofs.«01_k».proof.Proof.Gen.Kernel3
public import proofs.«01_k».proof.Proof.Gen.Kernel3.Frame
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Kernel3Ideal.Value
public import proofs.«01_k».proof.Proof.Gen.Kernel4
public import proofs.«01_k».proof.Proof.Gen.Kernel4.Frame
public import proofs.«01_k».proof.Proof.Gen.Kernel4.Launch
public import proofs.«01_k».proof.Proof.Gen.Kernel4.Points
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Value
public import proofs.«01_k».proof.Proof.Gen.Kernel5
public import proofs.«01_k».proof.Proof.Gen.Kernel5.Frame
public import proofs.«01_k».proof.Proof.Gen.Kernel5.Launch
public import proofs.«01_k».proof.Proof.Gen.Kernel5.Points
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Value
public import proofs.«01_k».proof.Proof.Gen.Reference2
public import proofs.«01_k».proof.Proof.Gen.Reference2.Run
public import proofs.«01_k».proof.Proof.Gen.Reference2Ideal
public import proofs.«01_k».proof.Proof.Gen.Reference2Ideal.Run
public import proofs.«01_k».proof.Proof.Gen.Reference3
public import proofs.«01_k».proof.Proof.Gen.Reference3.Run
public import proofs.«01_k».proof.Proof.Gen.Reference3Ideal
public import proofs.«01_k».proof.Proof.Gen.Reference3Ideal.Run
public import proofs.«01_k».proof.Proof.Gen.Reference4
public import proofs.«01_k».proof.Proof.Gen.Reference4.Run
public import proofs.«01_k».proof.Proof.Gen.Reference4Ideal
public import proofs.«01_k».proof.Proof.Gen.Reference4Ideal.Run
public import proofs.«01_k».proof.Proof.Gen.Reference5
public import proofs.«01_k».proof.Proof.Gen.Reference5.Run
public import proofs.«01_k».proof.Proof.Gen.Reference5Ideal
public import proofs.«01_k».proof.Proof.Gen.Reference5Ideal.Run
public import proofs.«01_k».proof.Proof.InProj
public import proofs.«01_k».proof.Proof.OutProj
public import proofs.«01_k».proof.Proof.InProjEven
public import proofs.«01_k».proof.Proof.OutProjEven
public import proofs.«01_k».proof.Proof.Value
public import proofs.«01_k».proof.Proof.RefRun
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The precondition at the kernel's arguments is the plan its proof takes. -/
theorem planned (m : (ℓ : Loc nD τ sig) → Buf (Elt Bits) ℓ) (h : letI := Cert.Pre_plan_ok.Gen.facts; Cert.Pre_Kernel m) : Cert.Experts.Planned m :=
  Cert.Experts.plan_of _ _ _ _ _ _ _ _ _ _ (h 0).1 (h 0).2.1 (h 0).2.2

/-- The experts of the reference's groups are in range. -/
theorem experts_lt (m' : (ℓ : Loc Cert.Reference.nD Cert.Reference.τ Cert.Reference.sig) → Buf (Elt Bits) ℓ) (h : letI := Cert.Pre_plan_ok.Gen.facts; Cert.Pre_Reference m') :
    ∀ c : Dev Cert.Reference.nD, ∀ j < 96, (Cert.Reference.Gen.V m' c Cert.Reference.main_arg0 (Cert.Experts.ix j) : BitVec 32).toNat < 32 := fun c =>
  (Cert.Experts.plan_of _ _ _ _ _ _ _ _ _ _ (h c).1 (h c).2.1 (h c).2.2).te_lt

theorem kernel_frame : letI := Cert.Kernel.Gen.facts; letI := Cert.Pre_plan_ok.Gen.facts; Cert.quiescent_Kernel := fun m g h =>
  Cert.Experts.run_main m g (planned m h) (Cert.Experts.ok_of m (planned m h))

theorem reference_frame : letI := Cert.Reference.Gen.facts; letI := Cert.Pre_plan_ok.Gen.facts; Cert.quiescent_Reference := fun m g h =>
  Cert.Reference.Gen.frame m g (Cert.ExpertsRef.hyps_of m (experts_lt m h))

/-- What the kernel leaves in its result array. -/
def res (m : (ℓ : Loc nD τ sig) → Buf (Elt Bits) ℓ) (c : Dev nD) : Vec Bits S196608x128 .i32 :=
  Cert.Experts.resOf c (Cert.Experts.tblTe m) (Cert.Experts.tblTv m) (Cert.Experts.V m c main_arg6) (Cert.Experts.vG m c) (Cert.Experts.vU m c) (Cert.Experts.vD m c)

theorem value : letI := Cert.Kernel.Gen.facts; letI := Cert.Reference.Gen.facts; letI := Cert.Pre_plan_ok.Gen.facts; Cert.bitexact_Kernel_Reference := by
  intro m g m' g' h e
  have hP := planned m h
  have hO := Cert.Experts.ok_of m hP
  have hx : ∀ c : Dev Cert.Reference.nD, ∀ j < 96, (Cert.Reference.Gen.V m' c Cert.Reference.main_arg0 (Cert.Experts.ix j) : BitVec 32).toNat < 32 := by
    intro c j hj
    obtain rfl : c = 0 := Subsingleton.elim _ _
    exact (congrArg (fun f : S96.Idx → BitVec 32 => (f (Cert.Experts.ix j)).toNat < 32) (e 0).1).mpr (hP.te_lt j hj)
  refine ⟨res m, ?_, ?_⟩
  · refine (θ_run _ _ _).mono (fun _ hr c => ⟨hr.1 c, hr.2.1 c⟩)
      (θ_run_and (Cert.Experts.run_value m g hP hO) (Cert.Experts.run_main m g hP hO))
  · refine (θ_run _ _ _).mono (fun _ hr c => ⟨(hr.1 c).trans ?_, hr.2.1 c⟩)
      (θ_run_and (Cert.ExpertsRef.run_value m' g' hx) (Cert.Reference.Gen.frame m' g' (Cert.ExpertsRef.hyps_of m' hx)))
    obtain rfl : c = 0 := Subsingleton.elim _ _
    obtain ⟨e0, e1, e2, e3, e4, e5, e6, e7, e8, e9⟩ := e 0
    unfold Cert.ExpertsRef.refRes res
    dsimp only [Cert.Reference.Gen.V]
    rw [e0, e2, e6, e7, e8, e9]
    rfl

theorem in_proj : letI := Cert.Kernel2Ideal.Gen.facts; letI := Cert.Reference2Ideal.Gen.facts; Cert.algebraic_Kernel2Ideal_Reference2Ideal := by
  intro m g m' g' _ hag
  refine ⟨fun c => Cert.Kernel2Ideal.Value.REF (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run _ _ _).mono (fun _ h c => ⟨(h c).1.trans (Cert.Kernel2Ideal.Value.final m c), (h c).2⟩) (Cert.Kernel2Ideal.Value.run_blocks m g)
  · refine (θ_run _ _ _).mono (fun _ h c => ⟨(h c).1.trans ?_, (h c).2⟩) (Cert.Reference2Ideal.Value.run m' g')
    obtain ⟨e0, e1⟩ := hag c
    rw [e0, e1]

theorem out_proj : letI := Cert.Kernel3Ideal.Gen.facts; letI := Cert.Reference3Ideal.Gen.facts; Cert.algebraic_Kernel3Ideal_Reference3Ideal := by
  intro m g m' g' _ hag
  refine ⟨fun c => Cert.Kernel3Ideal.Value.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · exact (θ_run _ _ _).mono (fun _ h c => ⟨(h c).1.trans (Cert.Kernel3Ideal.Value.final m c), (h c).2⟩) (Cert.Kernel3Ideal.Value.run_blocks m g)
  · refine (θ_run _ _ _).mono (fun _ h c => ⟨(h c).1.trans ?_, (h c).2⟩) (Cert.Reference3Ideal.Value.run m' g')
    obtain ⟨e0, e1, e2, e3⟩ := hag c
    rw [e0, e1, e2, e3]

theorem in_proj_even : letI := Cert.Kernel4Ideal.Gen.facts; letI := Cert.Reference4Ideal.Gen.facts; Cert.algebraic_Kernel4Ideal_Reference4Ideal := by
  intro m g m' g' _ hag
  refine ⟨fun c => Cert.Kernel4Ideal.Value.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run _ _ _).mono (fun _ h c => ⟨(h c).1.trans (Cert.Kernel4Ideal.Value.final m c), (h c).2⟩) (Cert.Kernel4Ideal.Value.run_blocks m g)
  · refine (θ_run _ _ _).mono (fun _ h c => ⟨(h c).1.trans ?_, (h c).2⟩) (Cert.Reference4Ideal.Value.run m' g')
    obtain ⟨e0, e1⟩ := hag c
    rw [e0, e1]

theorem out_proj_even : letI := Cert.Kernel5Ideal.Gen.facts; letI := Cert.Reference5Ideal.Gen.facts; Cert.algebraic_Kernel5Ideal_Reference5Ideal := by
  intro m g m' g' _ hag
  refine ⟨fun c => Cert.Kernel5Ideal.Value.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · exact (θ_run _ _ _).mono (fun _ h c => ⟨(h c).1.trans (Cert.Kernel5Ideal.Value.final m c), (h c).2⟩) (Cert.Kernel5Ideal.Value.run_blocks m g)
  · refine (θ_run _ _ _).mono (fun _ h c => ⟨(h c).1.trans ?_, (h c).2⟩) (Cert.Reference5Ideal.Value.run m' g')
    obtain ⟨e0, e1, e2, e3, e4⟩ := hag c
    rw [e0, e1, e2, e3, e4]

theorem claim : Cert.Claim := ⟨Cert.Kernel.Gen.facts, Cert.Reference.Gen.facts, Cert.Kernel2.Gen.facts, Cert.Reference2.Gen.facts, Cert.Kernel2Ideal.Gen.facts, Cert.Reference2Ideal.Gen.facts, Cert.Kernel3.Gen.facts, Cert.Reference3.Gen.facts, Cert.Kernel3Ideal.Gen.facts, Cert.Reference3Ideal.Gen.facts, Cert.Kernel4.Gen.facts, Cert.Reference4.Gen.facts, Cert.Kernel4Ideal.Gen.facts, Cert.Reference4Ideal.Gen.facts, Cert.Kernel5.Gen.facts, Cert.Reference5.Gen.facts, Cert.Kernel5Ideal.Gen.facts, Cert.Reference5Ideal.Gen.facts, Cert.Pre_plan_ok.Gen.facts,
  kernel_frame, reference_frame,
  fun m g _ => Cert.Kernel2.Gen.frame m g,
  fun m g _ => (θ_run Cert.Reference2.defs _ _).mono (fun r h => ⟨fun c => (h c).2, sem_eq_zero_of_no_sems (by decide) r.2⟩) (Cert.Reference2.Value.run m g),
  fun m g _ => Cert.Kernel2Ideal.Gen.frame m g,
  fun m g _ => (θ_run Cert.Reference2Ideal.defs _ _).mono (fun r h => ⟨fun c => (h c).2, sem_eq_zero_of_no_sems (by decide) r.2⟩) (Cert.Reference2Ideal.Value.run m g),
  fun m g _ => Cert.Kernel3.Gen.frame m g,
  fun m g _ => (θ_run Cert.Reference3.defs _ _).mono (fun r h => ⟨fun c => (h c).2, sem_eq_zero_of_no_sems (by decide) r.2⟩) (Cert.Reference3.Value.run m g),
  fun m g _ => Cert.Kernel3Ideal.Gen.frame m g,
  fun m g _ => (θ_run Cert.Reference3Ideal.defs _ _).mono (fun r h => ⟨fun c => (h c).2, sem_eq_zero_of_no_sems (by decide) r.2⟩) (Cert.Reference3Ideal.Value.run m g),
  fun m g _ => Cert.Kernel4.Gen.frame m g,
  fun m g _ => (θ_run Cert.Reference4.defs _ _).mono (fun r h => ⟨fun c => (h c).2, sem_eq_zero_of_no_sems (by decide) r.2⟩) (Cert.Reference4.Value.run m g),
  fun m g _ => Cert.Kernel4Ideal.Gen.frame m g,
  fun m g _ => (θ_run Cert.Reference4Ideal.defs _ _).mono (fun r h => ⟨fun c => (h c).2, sem_eq_zero_of_no_sems (by decide) r.2⟩) (Cert.Reference4Ideal.Value.run m g),
  fun m g _ => Cert.Kernel5.Gen.frame m g,
  fun m g _ => (θ_run Cert.Reference5.defs _ _).mono (fun r h => ⟨fun c => (h c).2, sem_eq_zero_of_no_sems (by decide) r.2⟩) (Cert.Reference5.Value.run m g),
  fun m g _ => Cert.Kernel5Ideal.Gen.frame m g,
  fun m g _ => (θ_run Cert.Reference5Ideal.defs _ _).mono (fun r h => ⟨fun c => (h c).2, sem_eq_zero_of_no_sems (by decide) r.2⟩) (Cert.Reference5Ideal.Value.run m g),
  value, trivial, in_proj, trivial, out_proj, trivial, in_proj_even, trivial, out_proj_even⟩

end Cert.Proof

end
